-- ==== Defs.lean ====
def Pre_Kernel [hPre_pre : Cert.Pre_pre.Facts] (m : (ℓ : Loc Cert.Kernel.nD Cert.Kernel.τ Cert.Kernel.sig) → Buf (Elt Bits) ℓ) : Prop :=
  ∀ c : Dev Cert.Kernel.nD,
    (Cert.Pre_pre.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_pre : Cert.Pre_pre.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_pre [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_pre : Cert.Pre_pre.Facts),
    quiescent_Kernel (hKernel := hKernel) (hPre_pre := hPre_pre)
    ∧ quiescent_KernelIdeal (hKernelIdeal := hKernelIdeal) (hPre_pre := hPre_pre)
    ∧ quiescent_ReferenceIdeal (hReferenceIdeal := hReferenceIdeal)
    ∧ quiescent_ReferenceIdeal_pre_pre (hReferenceIdeal := hReferenceIdeal) (hPre_pre := hPre_pre)
    ∧ preserves_Kernel_KernelIdeal
    ∧ algebraic_KernelIdeal_ReferenceIdeal (hKernelIdeal := hKernelIdeal) (hReferenceIdeal := hReferenceIdeal) (hPre_pre := hPre_pre)
-- ==== Pre_pre.lean ====
abbrev S1024x100000 : Shape := ⟨2, ![1024, 100000]⟩
abbrev S1024 : Shape := ⟨1, ![1024]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel

variable [Facts]

def fn {F : FTy → Type} [FloatOps F] (main_arg0 : FVec F S1024x100000 .f32) (main_arg1 : IVec S1024 32) (main_arg2 : FVec F S1024 .f32) : IVec S_ 1 :=
  let main_c : IVec S_ 32 := constantI S_ 32 0#32
  let main_v0 : IVec S1024 32 := broadcastInDim S1024 ![] bcast_S_S1024 main_c
  let main_v1 : IVec S1024 1 := cmpi .sge main_arg1 main_v0
  let main_c_0 : IVec S_ 32 := constantI S_ 32 100000#32
  let main_v2 : IVec S1024 32 := broadcastInDim S1024 ![] bcast_S_S1024 main_c_0
  let main_v3 : IVec S1024 1 := cmpi .slt main_arg1 main_v2
  let main_v4 : IVec S1024 1 := andi main_v1 main_v3
  let main_c_1 : IVec S_ 1 := constantI S_ 1 1#1
  let main_v5 : IVec S_ 1 := (fun x v => Host.reduce IntOp.andi x v reducesTo_S1024_S_d0 h_S_) main_v4 main_c_1
  main_v5
-- ==== Kernel.lean ====
abbrev S1024x100000 : Shape := ⟨2, ![1024, 100000]⟩
abbrev S1024 : Shape := ⟨1, ![1024]⟩
abbrev S100000x1024 : Shape := ⟨2, ![100000, 1024]⟩
abbrev S16 : Shape := ⟨1, ![16]⟩
abbrev S64 : Shape := ⟨1, ![64]⟩
abbrev S64x128 : Shape := ⟨2, ![64, 128]⟩
abbrev S256 : Shape := ⟨1, ![256]⟩
abbrev S_ : Shape := ⟨0, ![]⟩
abbrev S100000x128 : Shape := ⟨2, ![100000, 128]⟩
abbrev S1x16 : Shape := ⟨2, ![1, 16]⟩
abbrev S1 : Shape := ⟨1, ![1]⟩

abbrev nBuf : Table → Nat
  | .hbm => 7
  | .shared => 1
  | .local .scVector .vmem => 6
  | _ => 0

abbrev bufTy : (tb : Table) → Fin (nBuf tb) → BufTy
  | .hbm, ⟨0, _⟩ => ⟨S1024x100000, .f32⟩
  | .hbm, ⟨1, _⟩ => ⟨S1024, .i32⟩
  | .hbm, ⟨2, _⟩ => ⟨S1024, .f32⟩
  | .hbm, ⟨3, _⟩ => ⟨S100000x1024, .f32⟩
  | .hbm, ⟨4, _⟩ => ⟨S16, .f32⟩
  | .hbm, ⟨5, _⟩ => ⟨S1, .f32⟩
  | .hbm, ⟨6, _⟩ => ⟨S_, .f32⟩
  | .shared, ⟨0, _⟩ => ⟨S256, .f32⟩
  | .local .scVector .vmem, ⟨0, _⟩ => ⟨S64, .i32⟩
  | .local .scVector .vmem, ⟨1, _⟩ => ⟨S64, .f32⟩
  | .local .scVector .vmem, ⟨2, _⟩ => ⟨S64x128, .f32⟩
  | .local .scVector .vmem, ⟨3, _⟩ => ⟨S16, .f32⟩
  | .local .scVector .vmem, ⟨4, _⟩ => ⟨S256, .f32⟩
  | .local .scVector .vmem, ⟨5, _⟩ => ⟨S16, .f32⟩
  | _, _ => ⟨S1024x100000, .f32⟩

abbrev bufScoped : (cs : CoreSpace) → Fin (nBuf (.local .tc cs)) → Bool
  | _, _ => false

abbrev semScoped : Fin 5 → Bool
  | ⟨0, _⟩ => false
  | ⟨1, _⟩ => false
  | ⟨2, _⟩ => false
  | ⟨3, _⟩ => false
  | ⟨4, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 5 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v0_scv : Ref sig .scVector := ⟨.hbm, 3, rfl⟩
abbrev main_arg1_scv : Ref sig .scVector := ⟨.hbm, 1, rfl⟩
abbrev main_arg2_scv : Ref sig .scVector := ⟨.hbm, 2, rfl⟩
abbrev main_v1_scv : Ref sig .scVector := ⟨.hbm, 4, rfl⟩
abbrev cc0_scratch6 : Ref sig .scVector := ⟨.shared, 0, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev sc_start : Sem sig := 0
abbrev sc_done : Sem sig := 1
abbrev sc_go : Sem sig := 2
abbrev sc_taskDone : Sem sig := 3
abbrev sc_bar0 : Sem sig := 4

abbrev nD : Nat := 1
abbrev τ : Topo := Topo.v7x

variable {F : FTy → Type} [FloatOps F]

abbrev grid0 : Pipeline.Grid := ⟨2, ![1, 16], ![false, false]⟩

def k0_off1 (i : grid0.Coords) : Fin 1 → Nat :=
  let arg1 : BitVec 32 := BitVec.ofNat 32 (i 1).val
  let c64_i32 : BitVec 32 := 64#32
  let v0 : BitVec 32 := Scalar.muli arg1 c64_i32
  ![v0.toNat]
def k0_mult1 (i : grid0.Coords) : BitVec 32 :=
  let arg1 : BitVec 32 := BitVec.ofNat 32 (i 1).val
  let c0_i32 : BitVec 32 := 0#32
  let v8 : BitVec 1 := Scalar.cmpi .sgt arg1 c0_i32
  let v9 : BitVec 32 := Scalar.extui v8
  let c0_i32_0 : BitVec 32 := 0#32
  let v10 : BitVec 1 := Scalar.cmpi .slt arg1 c0_i32_0
  let v11 : BitVec 32 := Scalar.extui v10
  let v12 : BitVec 32 := Scalar.subi v9 v11
  let c2_i32 : BitVec 32 := 2#32
  let c0_i32_1 : BitVec 32 := 0#32
  let v13 : BitVec 1 := Scalar.cmpi .sgt c2_i32 c0_i32_1
  let v14 : BitVec 32 := Scalar.extui v13
  let c0_i32_2 : BitVec 32 := 0#32
  let v15 : BitVec 1 := Scalar.cmpi .slt c2_i32 c0_i32_2
  let v16 : BitVec 32 := Scalar.extui v15
  let v17 : BitVec 32 := Scalar.subi v14 v16
  let v18 : BitVec 1 := Scalar.cmpi .ne v12 v17
  let v19 : BitVec 32 := Scalar.remsi arg1 c2_i32
  let c0_i32_3 : BitVec 32 := 0#32
  let v20 : BitVec 1 := Scalar.cmpi .ne v19 c0_i32_3
  let v21 : BitVec 1 := Scalar.andi v18 v20
  let v7 : BitVec 32 := Scalar.divsi arg1 c2_i32
  let c1_i32 : BitVec 32 := 1#32
  let v22 : BitVec 32 := Scalar.subi v7 c1_i32
  let v23 : BitVec 32 := Scalar.select v21 v22 v7
  let c128_i32 : BitVec 32 := 128#32
  let v24 : BitVec 32 := Scalar.muli v23 c128_i32
  v24
def k0_off2 (i : grid0.Coords) : Fin 2 → Nat :=
  let c0_i32_11 : BitVec 32 := 0#32
  let arg1 : BitVec 32 := BitVec.ofNat 32 (i 1).val
  let c0_i32 : BitVec 32 := 0#32
  let v8 : BitVec 1 := Scalar.cmpi .sgt arg1 c0_i32
  let v9 : BitVec 32 := Scalar.extui v8
  let c0_i32_0 : BitVec 32 := 0#32
  let v10 : BitVec 1 := Scalar.cmpi .slt arg1 c0_i32_0
  let v11 : BitVec 32 := Scalar.extui v10
  let v12 : BitVec 32 := Scalar.subi v9 v11
  let c2_i32 : BitVec 32 := 2#32
  let c0_i32_1 : BitVec 32 := 0#32
  let v13 : BitVec 1 := Scalar.cmpi .sgt c2_i32 c0_i32_1
  let v14 : BitVec 32 := Scalar.extui v13
  let c0_i32_2 : BitVec 32 := 0#32
  let v15 : BitVec 1 := Scalar.cmpi .slt c2_i32 c0_i32_2
  let v16 : BitVec 32 := Scalar.extui v15
  let v17 : BitVec 32 := Scalar.subi v14 v16
  let v18 : BitVec 1 := Scalar.cmpi .ne v12 v17
  let v19 : BitVec 32 := Scalar.remsi arg1 c2_i32
  let c0_i32_3 : BitVec 32 := 0#32
  let v20 : BitVec 1 := Scalar.cmpi .ne v19 c0_i32_3
  let v21 : BitVec 1 := Scalar.andi v18 v20
  let v7 : BitVec 32 := Scalar.divsi arg1 c2_i32
  let c1_i32 : BitVec 32 := 1#32
  let v22 : BitVec 32 := Scalar.subi v7 c1_i32
  let v23 : BitVec 32 := Scalar.select v21 v22 v7
  let c128_i32 : BitVec 32 := 128#32
  let v24 : BitVec 32 := Scalar.muli v23 c128_i32
  let v25 : BitVec 32 := v24
  ![0, v25.toNat]
@[reducible] def k0_t1_loop : Scf.Loop 32 :=
  let c0_i32_13 : BitVec 32 := 0#32
  let c16_i32 : BitVec 32 := 16#32
  let v43 : BitVec 32 := Scalar.addi c0_i32_13 c16_i32
  let c1_i32_14 : BitVec 32 := 1#32
  ⟨c0_i32_13, v43, c1_i32_14⟩
def k0_off3 (k0_t1 : Fin k0_t1_loop.trips) : Fin 1 → Nat :=
  let c0_i32_20 : BitVec 32 := 0#32
  let c0_i32_13 : BitVec 32 := 0#32
  let c1_i32_14 : BitVec 32 := 1#32
  let arg16 : BitVec 32 := Scf.iv c0_i32_13 c1_i32_14 k0_t1
  let c4_i32 : BitVec 32 := 4#32
  let v55 : BitVec 32 := Scalar.muli arg16 c4_i32
  let v56 : BitVec 32 := Scalar.addi c0_i32_20 v55
  let c0_i32_22 : BitVec 32 := 0#32
  let v58 : BitVec 1 := Scalar.cmpi .sgt v56 c0_i32_22
  let v59 : BitVec 32 := Scalar.extui v58
  let c0_i32_23 : BitVec 32 := 0#32
  let v60 : BitVec 1 := Scalar.cmpi .slt v56 c0_i32_23
  let v61 : BitVec 32 := Scalar.extui v60
  let v62 : BitVec 32 := Scalar.subi v59 v61
  let c16_i32_21 : BitVec 32 := 16#32
  let c0_i32_24 : BitVec 32 := 0#32
  let v63 : BitVec 1 := Scalar.cmpi .sgt c16_i32_21 c0_i32_24
  let v64 : BitVec 32 := Scalar.extui v63
  let c0_i32_25 : BitVec 32 := 0#32
  let v65 : BitVec 1 := Scalar.cmpi .slt c16_i32_21 c0_i32_25
  let v66 : BitVec 32 := Scalar.extui v65
  let v67 : BitVec 32 := Scalar.subi v64 v66
  let v68 : BitVec 1 := Scalar.cmpi .ne v62 v67
  let v69 : BitVec 32 := Scalar.remsi v56 c16_i32_21
  let c0_i32_26 : BitVec 32 := 0#32
  let v70 : BitVec 1 := Scalar.cmpi .ne v69 c0_i32_26
  let v71 : BitVec 1 := Scalar.andi v68 v70
  let v57 : BitVec 32 := Scalar.divsi v56 c16_i32_21
  let c1_i32_27 : BitVec 32 := 1#32
  let v72 : BitVec 32 := Scalar.subi v57 c1_i32_27
  let v73 : BitVec 32 := Scalar.select v71 v72 v57
  let c16_i32_28 : BitVec 32 := 16#32
  let v74 : BitVec 32 := Scalar.muli v73 c16_i32_28
  let v75 : Index := Scalar.indexCast v74
  ![v75.toNat]
def k0_off4 (i : grid0.Coords) (k0_t1 : Fin k0_t1_loop.trips) (c0_i32_29 : BitVec 32) : Fin 2 → Nat :=
  let c0_i32_20 : BitVec 32 := 0#32
  let c0_i32_13 : BitVec 32 := 0#32
  let c1_i32_14 : BitVec 32 := 1#32
  let arg16 : BitVec 32 := Scf.iv c0_i32_13 c1_i32_14 k0_t1
  let c4_i32 : BitVec 32 := 4#32
  let v55 : BitVec 32 := Scalar.muli arg16 c4_i32
  let v56 : BitVec 32 := Scalar.addi c0_i32_20 v55
  let v78 : BitVec 32 := Scalar.addi v56 c0_i32_29
  let v80 : Index := Scalar.indexCast v78
  let arg1 : BitVec 32 := BitVec.ofNat 32 (i 1).val
  let c2_i32_4 : BitVec 32 := 2#32
  let c0_i32_5 : BitVec 32 := 0#32
  let v26 : BitVec 1 := Scalar.cmpi .eq c2_i32_4 c0_i32_5
  let c1_i32_6 : BitVec 32 := 1#32
  let v27 : BitVec 32 := Scalar.select v26 c1_i32_6 c2_i32_4
  let v28 : BitVec 32 := Scalar.remsi arg1 v27
  let c0_i32_8 : BitVec 32 := 0#32
  let v30 : BitVec 1 := Scalar.cmpi .slt v28 c0_i32_8
  let c0_i32_9 : BitVec 32 := 0#32
  let v31 : BitVec 1 := Scalar.cmpi .slt v27 c0_i32_9
  let v32 : BitVec 1 := Scalar.xori v30 v31
  let c0_i32_7 : BitVec 32 := 0#32
  let v29 : BitVec 1 := Scalar.cmpi .ne v28 c0_i32_7
  let v33 : BitVec 1 := Scalar.andi v32 v29
  let v34 : BitVec 32 := Scalar.addi v28 v27
  let v35 : BitVec 32 := Scalar.select v33 v34 v28
  let c64_i32_10 : BitVec 32 := 64#32
  let v36 : BitVec 32 := Scalar.muli v35 c64_i32_10
  let c0_i32_22 : BitVec 32 := 0#32
  let v58 : BitVec 1 := Scalar.cmpi .sgt v56 c0_i32_22
  let v59 : BitVec 32 := Scalar.extui v58
  let c0_i32_23 : BitVec 32 := 0#32
  let v60 : BitVec 1 := Scalar.cmpi .slt v56 c0_i32_23
  let v61 : BitVec 32 := Scalar.extui v60
  let v62 : BitVec 32 := Scalar.subi v59 v61
  let c16_i32_21 : BitVec 32 := 16#32
  let c0_i32_24 : BitVec 32 := 0#32
  let v63 : BitVec 1 := Scalar.cmpi .sgt c16_i32_21 c0_i32_24
  let v64 : BitVec 32 := Scalar.extui v63
  let c0_i32_25 : BitVec 32 := 0#32
  let v65 : BitVec 1 := Scalar.cmpi .slt c16_i32_21 c0_i32_25
  let v66 : BitVec 32 := Scalar.extui v65
  let v67 : BitVec 32 := Scalar.subi v64 v66
  let v68 : BitVec 1 := Scalar.cmpi .ne v62 v67
  let v69 : BitVec 32 := Scalar.remsi v56 c16_i32_21
  let c0_i32_26 : BitVec 32 := 0#32
  let v70 : BitVec 1 := Scalar.cmpi .ne v69 c0_i32_26
  let v71 : BitVec 1 := Scalar.andi v68 v70
  let v57 : BitVec 32 := Scalar.divsi v56 c16_i32_21
  let c1_i32_27 : BitVec 32 := 1#32
  let v72 : BitVec 32 := Scalar.subi v57 c1_i32_27
  let v73 : BitVec 32 := Scalar.select v71 v72 v57
  let c16_i32_28 : BitVec 32 := 16#32
  let v74 : BitVec 32 := Scalar.muli v73 c16_i32_28
  let v79 : BitVec 32 := Scalar.addi v36 v74
  let v81 : Index := Scalar.indexCast v79
  ![v80.toNat, v81.toNat]
def k0_off5 (i : grid0.Coords) : Fin 1 → Nat :=
  let arg1 : BitVec 32 := BitVec.ofNat 32 (i 1).val
  let c16_i32_16 : BitVec 32 := 16#32
  let v51 : BitVec 32 := Scalar.muli arg1 c16_i32_16
  ![v51.toNat]
def k0_cond1 (i : grid0.Coords) : BitVec 1 :=
  let arg1 : BitVec 32 := BitVec.ofNat 32 (i 1).val
  let c0_i32_18 : BitVec 32 := 0#32
  let v52 : BitVec 1 := Scalar.cmpi .eq arg1 c0_i32_18
  let v53 : BitVec 32 := Scalar.extui v52
  let c0_i32_19 : BitVec 32 := 0#32
  let v54 : BitVec 1 := Scalar.cmpi .ne v53 c0_i32_19
  v54

@[reducible] def k0_t2_loop : Scf.Loop 32 :=
  let c0_i32_21 : BitVec 32 := 0#32
  let c16_i32_22 : BitVec 32 := 16#32
  let v56 : BitVec 32 := Scalar.addi c0_i32_21 c16_i32_22
  let c1_i32_23 : BitVec 32 := 1#32
  ⟨c0_i32_21, v56, c1_i32_23⟩
def k0_off6 (k0_t2 : Fin k0_t2_loop.trips) : Fin 1 → Nat :=
  let c0_i32_21 : BitVec 32 := 0#32
  let c1_i32_23 : BitVec 32 := 1#32
  let arg16 : BitVec 32 := Scf.iv c0_i32_21 c1_i32_23 k0_t2
  let c16_i32_27 : BitVec 32 := 16#32
  let v110 : BitVec 32 := Scalar.muli arg16 c16_i32_27
  let v111 : Index := Scalar.indexCast v110
  ![v111.toNat]
abbrev scKind : Fin 1 → Kind := fun | 0 => .scVector | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1024x100000 : Shape := ⟨2, ![1024, 100000]⟩
abbrev S1024 : Shape := ⟨1, ![1024]⟩
abbrev S1024x1 : Shape := ⟨2, ![1024, 1]⟩
abbrev S_ : Shape := ⟨0, ![]⟩
abbrev S1024x1x1 : Shape := ⟨3, ![1024, 1, 1]⟩
abbrev S1 : Shape := ⟨1, ![1]⟩
abbrev S1x1x1 : Shape := ⟨3, ![1, 1, 1]⟩

abbrev nBuf : Space → Nat
  | .hbm => 31
  | .vmem => 0
  | .smem => 0
  | _ => 0

abbrev bufTy : (tb : Table) → Fin (tcTables nBuf tb) → BufTy
  | .hbm, ⟨0, _⟩ => ⟨S1024x100000, .f32⟩
  | .hbm, ⟨1, _⟩ => ⟨S1024, .i32⟩
  | .hbm, ⟨2, _⟩ => ⟨S1024, .f32⟩
  | .hbm, ⟨3, _⟩ => ⟨S1024x1, .i32⟩
  | .hbm, ⟨4, _⟩ => ⟨S_, .i32⟩
  | .hbm, ⟨5, _⟩ => ⟨S1024x1, .i32⟩
  | .hbm, ⟨6, _⟩ => ⟨S1024x1, .i1⟩
  | .hbm, ⟨7, _⟩ => ⟨S_, .i32⟩
  | .hbm, ⟨8, _⟩ => ⟨S1024x1, .i32⟩
  | .hbm, ⟨9, _⟩ => ⟨S1024x1, .i32⟩
  | .hbm, ⟨10, _⟩ => ⟨S1024x1, .i32⟩
  | .hbm, ⟨11, _⟩ => ⟨S1024x1x1, .i32⟩
  | .hbm, ⟨12, _⟩ => ⟨S1, .i32⟩
  | .hbm, ⟨13, _⟩ => ⟨S_, .i32⟩
  | .hbm, ⟨14, _⟩ => ⟨S1024x1x1, .i32⟩
  | .hbm, ⟨15, _⟩ => ⟨S1024x1x1, .i1⟩
  | .hbm, ⟨16, _⟩ => ⟨S1x1x1, .i32⟩
  | .hbm, ⟨17, _⟩ => ⟨S1024x1x1, .i32⟩
  | .hbm, ⟨18, _⟩ => ⟨S1024x1x1, .i1⟩
  | .hbm, ⟨19, _⟩ => ⟨S1024x1x1, .i1⟩
  | .hbm, ⟨20, _⟩ => ⟨S_, .i1⟩
  | .hbm, ⟨21, _⟩ => ⟨S1024x1, .i1⟩
  | .hbm, ⟨22, _⟩ => ⟨S1024x1, .f32⟩
  | .hbm, ⟨23, _⟩ => ⟨S_, .f32⟩
  | .hbm, ⟨24, _⟩ => ⟨S1024x1, .f32⟩
  | .hbm, ⟨25, _⟩ => ⟨S1024x1, .f32⟩
  | .hbm, ⟨26, _⟩ => ⟨S1024, .f32⟩
  | .hbm, ⟨27, _⟩ => ⟨S1024, .f32⟩
  | .hbm, ⟨28, _⟩ => ⟨S_, .f32⟩
  | .hbm, ⟨29, _⟩ => ⟨S_, .f32⟩
  | .hbm, ⟨30, _⟩ => ⟨S_, .f32⟩
  | _, _ => ⟨S1024x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_cst : Ref sig .tc := ⟨.hbm, 23, rfl⟩
abbrev main_call0_v14 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_cst : Ref sig .tc := ⟨.hbm, 28, rfl⟩
abbrev main_v4 : Ref sig .tc := ⟨.hbm, 29, rfl⟩
abbrev main_v5 : Ref sig .tc := ⟨.hbm, 30, rfl⟩

abbrev nD : Nat := 1
abbrev τ : Topo := Topo.v7x

variable {F : FTy → Type} [FloatOps F]
-- ==== Proof.Setup.lean ====
/-
  The certificate of the SparseCore kernel: what its proof is stated over.

  Sixteen tasks on the vector subcores of SparseCore 0. Task `i` fetches its 64 targets and its 64 rewards, gathers the 64
  rows of the transposed table that its targets name (a window of 128 columns of each), and adds up, sixteen lanes wide,
  the entries of its own samples times their rewards; the rest of each row it masks. It puts its sixteen partial sums in
  its row of the SparseCore's shared scratch and meets the others at the subcore barrier; then task 0 reads all sixteen
  rows, adds them and writes the negated total to every lane of the call's result.

  This module states the values (what each buffer holds, as a function of the launch memory), the barrier's schedule (a
  task's arrival at task 0's barrier cell hands over its row of the shared scratch, at its partial sums) and what the
  launch's handshakes carry.
-/
module

public import proofs.«01_k».proof.Defs
public import Idealize.ShloMosaic.Lib.SparseCore.Quiescent
public import Idealize.ShloMosaic.Lib.SparseCore.Ops
public import Idealize.ShloMosaic.Lib.SparseCore.FromWhole
public import Idealize.ShloMosaic.Lib.ShareLeaves
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.K

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
/-- The SparseCore of the call's core number `c`. -/
abbrev coreOf (c : Fin ((K (F := F)).nCore 0)) : Fin τ.nSC := (K (F := F)).core 0 c
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the barrier cells' rounds, the transfers' counters -/

abbrev UH : Type := URounds (GSem nD τ sig) ℕ
abbrev UB : Type := URounds (GSem nD τ sig) ℕ
abbrev UU : Type := UH × (UB × Counters)

local notation "𝕄" => MT nD τ sig (HIx 1) (Elt F) ℕ UU ℕ

abbrev EH : Emb UH (MT nD τ sig (HIx 1) (Elt F) ℕ UU ℕ) := embL
/-- The barrier cells' rounds: the left half of the right factor. -/
def EB : Emb UB (MT nD τ sig (HIx 1) (Elt F) ℕ UU ℕ) :=
  ((Emb.inl : Emb UB (UB × Counters)).trans (Emb.inr : Emb (UB × Counters) UU)).trans
    (uEmb (nD := nD) (sig := sig) (Ix := HIx 1) (Val := Elt F) (Name := ℕ) (U := UU) (Lvl := ℕ)).toEmb
instance EB_landsIn : (EB : Emb UB 𝕄).LandsIn (upEmb : UEmb _ 𝕄) := by unfold EB; infer_instance

/-! ## The launch memory and the buffers -/

variable (m : (ℓ : Loc nD τ sig) → Buf (Elt F) ℓ) (ρ : Dev nD → PrngReg)

/-- The probabilities, the targets and the rewards; the transposed table, the call's result, its first lane, the result. -/
abbrev aLoc (d : Dev nD) : Loc nD τ sig := (SparseCore.T d).loc main_arg0
abbrev tLoc (d : Dev nD) : Loc nD τ sig := (SparseCore.T d).loc main_arg1
abbrev rLoc (d : Dev nD) : Loc nD τ sig := (SparseCore.T d).loc main_arg2
abbrev pLoc (d : Dev nD) : Loc nD τ sig := (SparseCore.T d).loc main_v0
abbrev oLoc (d : Dev nD) : Loc nD τ sig := (SparseCore.T d).loc main_v1
abbrev sLoc (d : Dev nD) : Loc nD τ sig := (SparseCore.T d).loc main_v2
abbrev yLoc (d : Dev nD) : Loc nD τ sig := (SparseCore.T d).loc main_v3

abbrev pV : Memref sig Kind.scVector Space.hbm S100000x1024 EltTy.f32 := Memref.whole main_v0_scv
abbrev tV : Memref sig Kind.scVector Space.hbm S1024 EltTy.i32 := Memref.whole main_arg1_scv
abbrev rV : Memref sig Kind.scVector Space.hbm S1024 EltTy.f32 := Memref.whole main_arg2_scv
abbrev oV : Memref sig Kind.scVector Space.hbm S16 EltTy.f32 := Memref.whole main_v1_scv
abbrev tB : Memref sig Kind.scVector Space.vmem S64 EltTy.i32 := Memref.whole cc0_scratch0
abbrev rB : Memref sig Kind.scVector Space.vmem S64 EltTy.f32 := Memref.whole cc0_scratch1
abbrev wB : Memref sig Kind.scVector Space.vmem S64x128 EltTy.f32 := Memref.whole cc0_scratch2
abbrev sB : Memref sig Kind.scVector Space.vmem S16 EltTy.f32 := Memref.whole cc0_scratch3
abbrev gB : Memref sig Kind.scVector Space.vmem S256 EltTy.f32 := Memref.whole cc0_scratch4
abbrev oB : Memref sig Kind.scVector Space.vmem S16 EltTy.f32 := Memref.whole cc0_scratch5
abbrev shB : Memref sig Kind.scVector Space.shared S256 EltTy.f32 := Memref.whole cc0_scratch6

theorem nSub_eq : τ.nSub = 16 := rfl

/-- SparseCore `c`'s shared scratch. -/
abbrev shRef (c : Fin τ.nSC) : DevRef τ sig := ⟨.shared, ⟨0, by decide⟩, c⟩
abbrev shLoc (d : Dev nD) (c : Fin τ.nSC) : Loc nD τ sig := (d, shRef c)

/-! ## A task's coordinates and windows -/

/-- The kernel's coordinates as its launch spells them. -/
def coordsV (c : Fin (grid0.bound 0)) (s : Fin (grid0.bound 1)) : grid0.Coords :=
  fun | 0 => c | 1 => s | ⟨_ + 2, h⟩ => absurd h (Nat.not_lt.2 (Nat.le_add_left _ _))
/-- Task `i`'s. -/
abbrev crd (i : Fin 16) : grid0.Coords := coordsV (0 : Fin 1) i
abbrev cV (L : grid0.Coords) : Fin τ.nSC := (L 0).castLE hcore0
abbrev jV (L : grid0.Coords) : Fin τ.nSub := (L 1).castLE hsub0
theorem bound_one : grid0.bound 1 = 16 := rfl
abbrev jL (L : grid0.Coords) : Fin 16 := Fin.cast bound_one (L 1)

theorem crd_jL (L : grid0.Coords) : crd (jL L) = L := by
  funext a
  match a with
  | 0 => exact Subsingleton.elim (α := Fin 1) _ _
  | 1 => rfl

/-- The task's block of the targets and rewards, its 128 columns of the table, its row of the shared scratch. -/
abbrev blkR (L : grid0.Coords) : Rect S1024 := Rect.unit (s := S1024) (k0_off1 L) S64.size (k0_off1_inb L)
abbrev colR (L : grid0.Coords) : Rect S100000x1024 := Rect.unit (s := S100000x1024) (k0_off2 L) S100000x128.size (k0_off2_inb L)
abbrev rowR (L : grid0.Coords) : Rect S256 := Rect.unit (s := S256) (k0_off5 L) S16.size (k0_off5_inb L)
/-- What a trip of the task's loop reads: sixteen rewards, sixteen lanes of a gathered row; and of task 0's loop, a row of partial sums. -/
abbrev rwdR (k : Fin k0_t1_loop.trips) : Rect S64 := Rect.unit (s := S64) (k0_off3 k) S16.size (k0_off3_inb k)
abbrev winR (L : grid0.Coords) (k : Fin k0_t1_loop.trips) (r : Fin 4) : Rect S64x128 :=
  Rect.unit (s := S64x128) (k0_off4 L k (BitVec.ofNat 32 r.val)) S1x16.size (k0_off4_inb L k r)
theorem off6_inb (k : Fin k0_t2_loop.trips) : ∀ a, (k0_off6 k) a + S16.size a ≤ S256.size a := k0_off6_inb (crd 0) k (by decide)
abbrev gatR (k : Fin k0_t2_loop.trips) : Rect S256 := Rect.unit (s := S256) (k0_off6 k) S16.size (off6_inb k)

abbrev tK (L : grid0.Coords) : Memref sig .scVector .hbm S64 .i32 := (tV).slice (blkR L) (fun _ => rfl)
abbrev rK (L : grid0.Coords) : Memref sig .scVector .hbm S64 .f32 := (rV).slice (blkR L) (fun _ => rfl)
abbrev pK (L : grid0.Coords) : Memref sig .scVector .hbm S100000x128 .f32 := (pV).slice (colR L) (fun _ => rfl)
abbrev shK (L : grid0.Coords) : Memref sig .scVector .shared S16 .f32 := (shB).slice (rowR L) (fun _ => rfl)

/-- The loop's counter as the kernel reads it: the first of the trip's four samples, and the multiple of sixteen below it. -/
abbrev w56 (k : Fin k0_t1_loop.trips) : BitVec 32 := BitVec.ofNat 32 (4 * k.val)
abbrev w74 (k : Fin k0_t1_loop.trips) : BitVec 32 := BitVec.ofNat 32 (16 * (k.val / 4))

/-! ## The values -/

section Values
variable [FloatOps F]

/-- The transposed table. -/
def tbl (d : Dev nD) : Buf (Elt F) (pLoc d) :=
  (transpose S100000x1024 [1, 0] (m (aLoc d) : S1024x100000.Idx → Elt F .f32) transposes_S1024x100000_S100000x1024_1_0 : S100000x1024.Idx → Elt F .f32)
/-- The task's targets and its rewards. -/
def tgt (d : Dev nD) (L : grid0.Coords) : S64.Idx → Elt F .i32 := fun x => (m (tLoc d) : S1024.Idx → Elt F .i32) ((blkR L).emb x)
def rwd (d : Dev nD) (L : grid0.Coords) : S64.Idx → Elt F .f32 := fun x => (m (rLoc d) : S1024.Idx → Elt F .f32) ((blkR L).emb x)
/-- The row of the table that entry `k` of the task's targets names. -/
def tgtRow (d : Dev nD) (L : grid0.Coords) (k : Fin 64) : Fin 100000 :=
  ⟨(tgt m d L (S64.rowMajor.symm (Fin.cast (by decide : (64 : ℕ) = S64.numel) k)) : BitVec 32).toNat % 100000, Nat.mod_lt _ (by decide)⟩
/-- The gathered rows: row `k` the task's columns of the table's row `tgtRow k`. -/
def win (d : Dev nD) (L : grid0.Coords) : S64x128.Idx → Elt F .f32 :=
  SparseCore.gatherPayload gathers_S100000x128_S64x128 (fun y => (tbl m d : S100000x1024.Idx → Elt F .f32) ((colR L).emb y)) (tgtRow m d L)

/-- The four accumulators. -/
abbrev Acc : Type := FVec F S16 .f32 × FVec F S16 .f32 × FVec F S16 .f32 × FVec F S16 .f32

/-- One trip of the task's loop, over rewards `fr` and gathered rows `fw`. -/
def trip (L : grid0.Coords) (fr : S64.Idx → Elt F .f32) (fw : S64x128.Idx → Elt F .f32) (k : Fin k0_t1_loop.trips) (a : Acc (F := F)) : Acc (F := F) :=
  (k0_pay8 (iota .scVector S16 32 [0] iota_S16_d0_w32_scVector) 0#32 1#32 k a.1 (fun x => fr ((rwdR k).emb x)) (fun x => fw ((winR L k 0).emb x)),
    k0_pay2 a.2.1 (k0_pay9 (iota .scVector S16 32 [0] iota_S16_d0_w32_scVector) 0#32 1#32 k) (k0_pay10 (fun x => fr ((rwdR k).emb x)) (fun x => fw ((winR L k 1).emb x))),
    k0_pay3 a.2.2.1 (w56 k) (w74 k) (k0_pay7 (fun x => fr ((rwdR k).emb x))) (fun x => fw ((winR L k 2).emb x)),
    k0_pay4 a.2.2.2 (w56 k) (w74 k) (k0_pay7 (fun x => fr ((rwdR k).emb x))) (fun x => fw ((winR L k 3).emb x)))

/-- The accumulators after `n` trips. -/
def accs (L : grid0.Coords) (fr : S64.Idx → Elt F .f32) (fw : S64x128.Idx → Elt F .f32) : ℕ → Acc (F := F)
  | 0 => (k0_pay1, k0_pay1, k0_pay1, k0_pay1)
  | n + 1 => if h : n < k0_t1_loop.trips then trip L fr fw ⟨n, h⟩ (accs L fr fw n) else accs L fr fw n

/-- The task's sixteen partial sums. -/
def part (d : Dev nD) (L : grid0.Coords) : FVec F S16 .f32 :=
  k0_pay5 (accs L (rwd m d L) (win m d L) k0_t1_loop.trips).1 (accs L (rwd m d L) (win m d L) k0_t1_loop.trips).2.1
    (accs L (rwd m d L) (win m d L) k0_t1_loop.trips).2.2.1 (accs L (rwd m d L) (win m d L) k0_t1_loop.trips).2.2.2

/-- Lane `l` of a sixteen-lane vector. -/
def lane (l : Fin 16) : S16.Idx := fun a => ⟨l.val, by match a with | 0 => exact l.isLt⟩

/-- The shared scratch after the barrier: element `16 i + l` is lane `l` of task `i`'s partial sums. -/
def sums (d : Dev nD) : S256.Idx → Elt F .f32 := fun x =>
  part m d (crd ⟨(x 0).val / 16, Nat.div_lt_of_lt_mul (x 0).isLt⟩) (lane ⟨(x 0).val % 16, Nat.mod_lt _ (by decide)⟩)

/-- Task 0's sixteen lanes after `n` rows of partial sums. -/
def tots (f : S256.Idx → Elt F .f32) : ℕ → FVec F S16 .f32
  | 0 => k0_pay11
  | n + 1 => if h : n < k0_t2_loop.trips then k0_pay12 (tots f n) (fun x => f ((gatR ⟨n, h⟩).emb x)) else tots f n

/-- The call's result. -/
def outv (d : Dev nD) : S16.Idx → Elt F .f32 := k0_pay6 (k0_pay13 (tots (sums m d) k0_t2_loop.trips))

end Values

variable [FloatOps F]

/-! ## What the payloads are made of -/

abbrev tBlk (d : Dev nD) (L : grid0.Coords) : sProp 𝕄 := tLoc d ↦[(tK L).view.set]{fullShare} m (tLoc d)
abbrev rBlk (d : Dev nD) (L : grid0.Coords) : sProp 𝕄 := rLoc d ↦[(rK L).view.set]{fullShare} m (rLoc d)
abbrev pTok (d : Dev nD) (L : grid0.Coords) : sProp 𝕄 := pLoc d ↦{ShareLeaves.leaf 4 fullShare (jL L)} tbl m d
abbrev shRow (d : Dev nD) (c : Fin τ.nSC) (L : grid0.Coords) (f : Buf (Elt F) (shLoc d c)) : sProp 𝕄 := shLoc d c ↦[(shK L).view.set]{fullShare} f
abbrev shAll (d : Dev nD) (c : Fin τ.nSC) (f : Buf (Elt F) (shLoc d c)) : sProp 𝕄 := shLoc d c ↦{fullShare} f
abbrev oPts (d : Dev nD) (f : Buf (Elt F) (oLoc d)) : sProp 𝕄 := oLoc d ↦{fullShare} f
abbrev tPts (d : Dev nD) : sProp 𝕄 := tLoc d ↦{fullShare} m (tLoc d)
abbrev rPts (d : Dev nD) : sProp 𝕄 := rLoc d ↦{fullShare} m (rLoc d)
abbrev pPts (d : Dev nD) : sProp 𝕄 := pLoc d ↦{fullShare} tbl m d

/-- Task 0's alone. -/
def lead (L : grid0.Coords) (X : sProp 𝕄) : sProp 𝕄 := if (L 1).val = 0 then X else iprop(emp)

instance lead_storable (L : grid0.Coords) (X : sProp 𝕄) [BI.Storable (upEmb : UEmb _ 𝕄) X] : BI.Storable (upEmb : UEmb _ 𝕄) (lead L X) := by
  unfold lead; split <;> infer_instance

omit [FloatOps F] in
theorem bigSep_emp' {I : Type} (s : Finset I) : (bigSep s fun _ => iprop(emp)) = (iprop(emp) : sProp 𝕄) := bigSep_emp_const s

omit [FloatOps F] in
/-- What task 0 alone has, all sixteen have. -/
theorem bigSep_lead (X : sProp 𝕄) : (bigSep Finset.univ fun i : Fin 16 => lead (crd i) X) = X := by
  rw [SparseCore.bigSep_erase' (Finset.mem_univ (0 : Fin 16)),
    show (bigSep (Finset.univ.erase (0 : Fin 16)) fun i : Fin 16 => lead (crd i) X) = bigSep (Finset.univ.erase (0 : Fin 16)) fun _ => (iprop(emp) : sProp 𝕄) from
      bigSep_congr fun i hi => if_neg fun h => (Finset.mem_erase.mp hi).1 (Fin.ext h), bigSep_emp']
  exact BI.Entails.antisymm sep_emp.1 sep_emp.2

/-- What a task takes. -/
abbrev tileGo (d : Dev nD) (c : Fin τ.nSC) (L : grid0.Coords) : sProp 𝕄 :=
  iprop(tBlk m d L ∗ rBlk m d L ∗ pTok m d L ∗ lead L (oPts d (m (oLoc d))) ∗ ∃ f, shRow d c L f)
/-- What it brings back, besides its barrier semaphore: its shares, and task 0 the result and the shared scratch. -/
abbrev tileTd (d : Dev nD) (c : Fin τ.nSC) (L : grid0.Coords) : sProp 𝕄 :=
  iprop(tBlk m d L ∗ rBlk m d L ∗ pTok m d L ∗ lead L (oPts d (outv m d)) ∗ lead L (shAll d c (sums m d)))

/-! ## The barrier cells -/

/-- Task `(c, j)`'s barrier semaphore of device `d`. -/
abbrev bcell (d : Dev nD) (c : Fin τ.nSC) (j : Fin τ.nSub) : GSem nD τ sig := (V d c j, .reg sc_bar0)

omit [FloatOps F] in
theorem sc_bar0_ne_go : (sc_bar0 : Sem sig) ≠ sc_go := by decide

def isBar (g : GSem nD τ sig) : Bool :=
  match g with
  | ((_, .scVector _ _), sm) => decide (sm = .reg sc_bar0)
  | _ => false

@[simp] theorem isBar_bcell (d : Dev nD) (c : Fin τ.nSC) (j : Fin τ.nSub) : isBar (bcell d c j) = true := by simp [isBar]

/-- What duty `n` of a barrier cell's round hands over: in task 0's, task `n`'s row of the shared scratch at its partial
    sums; in the others', nothing. -/
def bPay (g : GSem nD τ sig) (n : ℕ) : sProp 𝕄 :=
  match g with
  | ((d, .scVector c j), _) => if h : j.val = 0 ∧ n < 16 then shRow d c (crd ⟨n, h.2⟩) (sums m d) else iprop(emp)
  | _ => iprop(emp)

/-- The barrier cells' schedule: one round on each, of one unit duty per task. -/
def bRd : Rounds.Schedule (GSem nD τ sig) ℕ 𝕄 where
  duties g r := if isBar g ∧ r = 0 then (Finset.univ : Finset (Fin τ.nSub)).image Fin.val else ∅
  amount _ _ _ := 1
  payload g _ n := bPay m g n
  amount_pos _ _ _ _ := Nat.one_pos

instance bRd_payload_storable (g : GSem nD τ sig) (r n : ℕ) : BI.Storable (upEmb : UEmb _ 𝕄) ((bRd m).payload g r n) := by
  show BI.Storable upEmb (bPay m g n)
  unfold bPay
  rcases g with ⟨⟨d, _ | c | ⟨c, i⟩⟩, sm⟩ <;> dsimp only <;> (repeat' split) <;> infer_instance

theorem bRd_duties₀ (d : Dev nD) (c : Fin τ.nSC) (j : Fin τ.nSub) : (bRd m).duties (bcell d c j) 0 = (Finset.univ : Finset (Fin τ.nSub)).image Fin.val := by
  simp [bRd, isBar]
theorem bRd_duties_succ (g : GSem nD τ sig) (r : ℕ) (hr : 1 ≤ r) : (bRd m).duties g r = ∅ :=
  if_neg fun h => absurd h.2 (Nat.ne_of_gt hr)
theorem bRd_mem₀ (d : Dev nD) (c : Fin τ.nSC) (j i : Fin τ.nSub) : i.val ∈ (bRd m).duties (bcell d c j) 0 := by
  rw [bRd_duties₀]; exact Finset.mem_image_of_mem _ (Finset.mem_univ i)
theorem bRd_expect (d : Dev nD) (c : Fin τ.nSC) (j : Fin τ.nSub) : 0 + grid0.bound 1 = (bRd m).expect (bcell d c j) 0 := by
  unfold Rounds.Schedule.expect; rw [bRd_duties₀]
  show 0 + 16 = ∑ x ∈ (Finset.univ : Finset (Fin 16)).image Fin.val, 1
  rw [Finset.sum_const, Finset.card_image_of_injective _ Fin.val_injective]; rfl

/-- What the launch has a task owe for the barrier: a unit on every task's cell, at the call's index. -/
def oxV (d : Dev nD) (c : Fin τ.nSC) : CellTallies nD τ sig (HIx 1) := ∑ j : Fin (grid0.bound 1), tallyAt (bcell d c (j.castLE hsub0)) (some 0) 1

omit [FloatOps F] in
theorem oxV_none (d : Dev nD) (c : Fin τ.nSC) (g : GSem nD τ sig) : oxV d c g none = 0 := by
  unfold oxV
  rw [Finset.sum_apply, Finsupp.finsetSum_apply]
  exact Finset.sum_eq_zero fun j _ => by rw [tallyAt_apply, if_neg (fun e => nomatch e.2)]

omit [FloatOps F] in
theorem oxV_apply_pos {d : Dev nD} {c : Fin τ.nSC} {g : GSem nD τ sig} {ι : HIx 1} (h : 0 < oxV d c g ι) : ∃ j : Fin (grid0.bound 1), g = bcell d c (j.castLE hsub0) ∧ ι = some 0 := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

/-- A task's barrier kit: every task's cell invariant and that each has reached round 0, its own position at the origin of
    round 0, its duty token in every task's round 0, and the credit for the sixteen units of its own round. -/
def bkit (d : Dev nD) (c : Fin τ.nSC) (i : Fin τ.nSub) : sProp 𝕄 :=
  iprop((∃ κ : GSem nD τ sig → ℕ, bigSep Finset.univ fun j : Fin (grid0.bound 1) =>
      cellInv EB (bRd m) (κ (bcell d c (j.castLE hsub0))) (bcell d c (j.castLE hsub0)))
    ∗ (bigSep Finset.univ fun j : Fin (grid0.bound 1) => dutyTok EB (bcell d c (j.castLE hsub0)) 0 i.val)
    ∗ (bigSep Finset.univ fun j : Fin (grid0.bound 1) => reached EB (bcell d c (j.castLE hsub0)) 0)
    ∗ atPos EB (bcell d c i) 0 ∅ 0
    ∗ cred (tallyAt (bcell d c i) (some 0) (grid0.bound 1)))

/-! ## What the handshakes carry -/

/-- The barrier semaphores of the call's tasks, at zero. -/
abbrev bars (d : Dev nD) (c : Fin ((K (F := F)).nCore 0)) : sProp 𝕄 :=
  bigSep Finset.univ fun i : Fin ((K (F := F)).nSub 0) => semVal (bcell d (coreOf c) ((K (F := F)).sub 0 i)) 0

set_option backward.proofsInPublic true in
/-- The one call takes the transposed table, the targets, the rewards and the result's buffer whole, and brings them back
    with the result written and the barrier semaphores at zero; each task as `tileGo` and `tileTd` say. -/
def P : (K (F := F)).Pay (nD := nD) (Val := Elt F) (Name := ℕ) (U := UU) where
  st := fun q d _ => match q with | 0 => iprop(tPts m d ∗ rPts m d ∗ pPts m d ∗ oPts d (m (oLoc d)))
  dn := fun q d c => match q with | 0 => iprop((tPts m d ∗ rPts m d ∗ pPts m d ∗ oPts d (outv m d)) ∗ bars d c)
  go := fun q d c i => match q with | 0 => tileGo m d (coreOf c) (crd (Fin.cast nSub_zero i))
  td := fun q d c i => match q with
    | 0 => iprop(tileTd m d (coreOf c) (crd (Fin.cast nSub_zero i)) ∗ semVal (bcell d (coreOf c) ((K (F := F)).sub 0 i)) 0)
  x := fun _ thr => match thr with
    | (d, .scVector c i) => if c.val < 1 then bkit m d c i else iprop(emp)
    | _ => iprop(emp)
  ox := fun _ thr => match thr with
    | (d, .scVector c _) => if c.val < 1 then oxV d c else 0
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · dsimp only at h
      split at h
      · obtain ⟨j, rfl, rfl⟩ := oxV_apply_pos h
        rw [(K (F := F)).lev_V_reg d c (j.castLE hsub0) (show (sc_bar0 : Sem sig) ≠ (K (F := F)).go from sc_bar0_ne_go)]; exact ⟨le_rfl, by decide⟩
      · exact absurd h (lt_irrefl 0)
  ox_tc := fun _ _ => rfl
  ox_sc := fun _ _ _ h => absurd rfl h
  ox_vc := by
    intro q d c i h
    obtain rfl : q = 0 := Subsingleton.elim _ _
    dsimp only at h
    split at h
    · next hc => exact ⟨rfl, hc, i.isLt⟩
    · exact absurd rfl h

instance P_storable : (P m).IsStorable where
  st q d _ := match q with
    | 0 => (inferInstance : BI.Storable (upEmb : UEmb _ 𝕄) iprop(tPts m d ∗ rPts m d ∗ pPts m d ∗ oPts d (m (oLoc d))))
  dn q d _ := match q with
    | 0 => (inferInstance : BI.Storable (upEmb : UEmb _ 𝕄) iprop((tPts m d ∗ rPts m d ∗ pPts m d ∗ oPts d (outv m d)) ∗ bars d _))
  go q d c i := match q with
    | 0 => (inferInstance : BI.Storable (upEmb : UEmb _ 𝕄) (tileGo m d (coreOf c) (crd (Fin.cast nSub_zero i))))
  td q d c i := match q with
    | 0 => (inferInstance : BI.Storable (upEmb : UEmb _ 𝕄) iprop(tileTd m d (coreOf c) (crd (Fin.cast nSub_zero i)) ∗ semVal _ 0))

end Cert.Proof.K

end
-- ==== Proof.Sums.lean ====
/-
  A task's arithmetic over the extended reals: each trip adds, at one lane of each accumulator, one sample's table entry
  times its reward; the sixteen lanes of a task's partial sums add up to the sum over its 64 samples; and task 0's total is
  the sum of all tasks' partial sums.
-/
module

public import proofs.«01_k».proof.Proof.Setup
public import Idealize.ShloMosaic.Lib.Pipeline.Value
public import Idealize.ShloMosaic.Lib.Pipeline.ValueKit.Geometry
public import Idealize.ShloMosaic.Lib.Pointwise.Index
public import Idealize.ShloMosaic.Lib.WordCmp
public import Idealize.ShloMosaic.PureOps.Ideal.Laws

@[expose] public section

noncomputable section

namespace Cert.Proof.K

open Cert.KernelIdeal Cert.KernelIdeal.Gen
open Idealize.ShloMosaic

/-- Summing blocks of `c` consecutive terms, block by block, is summing all the terms. -/
theorem sum_blocks (m c : ℕ) (T : ℕ → EReal) : (∑ i : Fin m, ∑ r : Fin c, T (c * i.val + r.val)) = ∑ n : Fin (m * c), T n.val := by
  rw [← Fintype.sum_prod_type' (f := fun (i : Fin m) (r : Fin c) => T (c * i.val + r.val)), ← finProdFinEquiv.sum_comp (fun n : Fin (m * c) => T n.val)]
  exact Finset.sum_congr rfl fun p _ => congrArg T (Nat.add_comm _ _)

/-! ## Where the windows lie -/

theorem off2_eq : ∀ i : grid0.Coords, k0_off2 i = ![0, 128 * ((i 1).val / 2)] := by decide +kernel
theorem off3_eq : ∀ k : Fin k0_t1_loop.trips, k0_off3 k = ![16 * (k.val / 4)] := by decide +kernel
theorem off4_eq : ∀ (i : grid0.Coords) (k : Fin k0_t1_loop.trips) (r : Fin 4),
    k0_off4 i k (BitVec.ofNat 32 r.val) = ![4 * k.val + r.val, 64 * ((i 1).val % 2) + 16 * (k.val / 4)] := by decide +kernel

variable (L : grid0.Coords) (fr : S64.Idx → Elt Ideal .f32) (fw : S64x128.Idx → Elt Ideal .f32)

/-- Sample `n` of a task: its row of the gathered window at its own column, times its reward; zero past the last sample. -/
def smp (n : ℕ) : EReal :=
  if h : n < 64 then fw (ix2 (⟨n, h⟩ : Fin 64) (⟨64 * ((L 1).val % 2) + n, by omega⟩ : Fin 128)) * fr (ix1 (⟨n, h⟩ : Fin 64)) else 0

/-- What trip `k` adds to lane `l` of accumulator `u`. -/
def gain (u k l : ℕ) : EReal := if l = 4 * (k % 4) + u then smp L fr fw (4 * k + u) else 0

/-- An accumulator's update in a trip, the mask being one that selects lane `4 (k mod 4) + u`. -/
theorem update_apply (k : Fin k0_t1_loop.trips) (u : Fin 4) (acc : FVec Ideal S16 .f32) (w : IVec S16 1)
    (hw : ∀ l : Fin 16, w (ix1 l) = 1#1 ↔ l.val = 4 * (k.val % 4) + u.val) (x : Fin 16) :
    addf acc (select w (mulf (shapeCast S16 (fun y => fw ((winR L k u).emb y)) shapeCasts_S1x16_S16) (shapeCast S16 (fun y => fr ((rwdR k).emb y)) shapeCasts_S16_S16))
      (broadcast S16 (Scalar.ofBits (F := Ideal) .f32 0x00000000#32))) (ix1 x) = acc (ix1 x) + gain L fr fw u.val k.val x.val := by
  refine congrArg (acc (ix1 x) + ·) ?_
  unfold gain
  show Scalar.select (w (ix1 x)) (shapeCast S16 (fun y => fw ((winR L k u).emb y)) shapeCasts_S1x16_S16 (ix1 x)
    * shapeCast S16 (fun y => fr ((rwdR k).emb y)) shapeCasts_S16_S16 (ix1 x) : EReal) (Ideal.ofBits .f32 0x00000000#32) = _
  by_cases h : x.val = 4 * (k.val % 4) + u.val
  · rw [(hw x).mpr h, if_pos h, WordCmp.select_one]
    have hk : k.val < 16 := k.isLt
    have hu := u.isLt
    have hn : 4 * k.val + u.val < 64 := by omega
    unfold smp
    rw [dif_pos hn]
    refine congrArg₂ (· * ·) (Eq.trans (shapeCast_apply _ shapeCasts_S1x16_S16 (ix1 x) (ix2 (0 : Fin 1) x) (by rw [Shape.rowMajor_val_one, Shape.rowMajor_val_two]; simp))
      (congrArg fw (funext fun a => Fin.ext ?_))) (Eq.trans (congrFun (shapeCast_self _ shapeCasts_S16_S16) (ix1 x)) (congrArg fr (funext fun a => Fin.ext ?_)))
    · refine (ValueKit.rect_emb_unit_val _ _ _ _ _).trans ?_
      match a with
      | ⟨0, _⟩ => exact congrFun (off4_eq L k u) 0
      | ⟨1, _⟩ =>
        refine (congrArg (· + x.val) (congrFun (off4_eq L k u) 1)).trans ?_
        show 64 * ((L 1).val % 2) + 16 * (k.val / 4) + x.val = 64 * ((L 1).val % 2) + (4 * k.val + u.val); omega
    · refine (ValueKit.rect_emb_unit_val _ _ _ _ _).trans ?_
      match a with
      | ⟨0, _⟩ =>
        refine (congrArg (· + x.val) (congrFun (off3_eq k) 0)).trans ?_
        show 16 * (k.val / 4) + x.val = 4 * k.val + u.val; omega
  · rw [if_neg h, Ideal.ofBits_zero_f32]
    have hz : w (ix1 x) = 0#1 := by
      have := mt (hw x).mp h
      revert this; generalize w (ix1 x) = b; revert b; decide
    rw [hz]; rfl

/-! ## The accumulators -/

theorem trip_0 (k : Fin k0_t1_loop.trips) (a : Acc (F := Ideal)) (x : Fin 16) :
    (trip L fr fw k a).1 (ix1 x) = a.1 (ix1 x) + gain L fr fw 0 k.val x.val := by
  refine update_apply L fr fw k 0 a.1 _ ?_ x
  clear a x
  revert k
  decide +kernel

theorem trip_1 (k : Fin k0_t1_loop.trips) (a : Acc (F := Ideal)) (x : Fin 16) :
    (trip L fr fw k a).2.1 (ix1 x) = a.2.1 (ix1 x) + gain L fr fw 1 k.val x.val := by
  refine update_apply L fr fw k 1 a.2.1 _ ?_ x
  clear a x
  revert k
  decide +kernel

theorem trip_2 (k : Fin k0_t1_loop.trips) (a : Acc (F := Ideal)) (x : Fin 16) :
    (trip L fr fw k a).2.2.1 (ix1 x) = a.2.2.1 (ix1 x) + gain L fr fw 2 k.val x.val := by
  refine update_apply L fr fw k 2 a.2.2.1 _ ?_ x
  clear a x
  revert k
  decide +kernel

theorem trip_3 (k : Fin k0_t1_loop.trips) (a : Acc (F := Ideal)) (x : Fin 16) :
    (trip L fr fw k a).2.2.2 (ix1 x) = a.2.2.2 (ix1 x) + gain L fr fw 3 k.val x.val := by
  refine update_apply L fr fw k 3 a.2.2.2 _ ?_ x
  clear a x
  revert k
  decide +kernel

/-- After `n` trips each accumulator holds, lane by lane, the sum of what the trips added. -/
theorem accs_apply (n : ℕ) (hn : n ≤ 16) (x : Fin 16) :
    (accs L fr fw n).1 (ix1 x) = ∑ k ∈ Finset.range n, gain L fr fw 0 k x.val
    ∧ (accs L fr fw n).2.1 (ix1 x) = ∑ k ∈ Finset.range n, gain L fr fw 1 k x.val
    ∧ (accs L fr fw n).2.2.1 (ix1 x) = ∑ k ∈ Finset.range n, gain L fr fw 2 k x.val
    ∧ (accs L fr fw n).2.2.2 (ix1 x) = ∑ k ∈ Finset.range n, gain L fr fw 3 k x.val := by
  induction n with
  | zero =>
    have z : (k0_pay1 (F := Ideal)) (ix1 x) = (0 : EReal) := Ideal.ofBits_zero_f32
    simp only [Finset.range_zero, Finset.sum_empty]
    exact ⟨z, z, z, z⟩
  | succ n ih =>
    have hlt : n < k0_t1_loop.trips := hn
    obtain ⟨e0, e1, e2, e3⟩ := ih (by omega)
    have es : accs L fr fw (n + 1) = trip L fr fw ⟨n, hlt⟩ (accs L fr fw n) := dif_pos hlt
    rw [es, trip_0, trip_1, trip_2, trip_3, e0, e1, e2, e3]
    simp only [Finset.sum_range_succ, and_self]

/-- The four accumulators after all sixteen trips, added up. -/
theorem pay5_apply (x : Fin 16) :
    k0_pay5 (accs L fr fw k0_t1_loop.trips).1 (accs L fr fw k0_t1_loop.trips).2.1 (accs L fr fw k0_t1_loop.trips).2.2.1 (accs L fr fw k0_t1_loop.trips).2.2.2 (ix1 x)
      = ∑ k : Fin 16, ∑ u : Fin 4, gain L fr fw u.val k.val x.val := by
  have h := accs_apply L fr fw 16 le_rfl x
  unfold k0_pay5
  rw [shapeCast_self]
  show ((accs L fr fw 16).1 (ix1 x) + (accs L fr fw 16).2.1 (ix1 x)) + ((accs L fr fw 16).2.2.1 (ix1 x) + (accs L fr fw 16).2.2.2 (ix1 x)) = _
  rw [h.1, h.2.1, h.2.2.1, h.2.2.2]
  simp only [Finset.sum_range, ← Finset.sum_add_distrib]
  refine Finset.sum_congr rfl fun k _ => ?_
  rw [Fin.sum_univ_four, add_assoc, add_assoc, add_assoc]
  rfl

/-- Over the sixteen lanes, the accumulators of a task hold the sum over its 64 samples. -/
theorem sum_gains : (∑ l : Fin 16, ∑ k : Fin 16, ∑ u : Fin 4, gain L fr fw u.val k.val l.val) = ∑ n : Fin 64, smp L fr fw n.val := by
  rw [Finset.sum_comm]
  refine Eq.trans (Finset.sum_congr rfl fun k _ => ?_) (sum_blocks 16 4 (smp L fr fw))
  rw [Finset.sum_comm]
  refine Finset.sum_congr rfl fun u _ => ?_
  have hl : 4 * (k.val % 4) + u.val < 16 := by have := u.isLt; omega
  exact (Finset.sum_eq_single_of_mem (⟨4 * (k.val % 4) + u.val, hl⟩ : Fin 16) (Finset.mem_univ _)
    fun l _ h => if_neg fun e => h (Fin.ext e)).trans (if_pos rfl)

/-! ## Task 0's total -/

/-- After `n` rows, lane `x` is the sum of lane `x` of the rows. -/
theorem tots_apply (f : S256.Idx → Elt Ideal .f32) (n : ℕ) (hn : n ≤ 16) (x : Fin 16) :
    tots f n (ix1 x) = ∑ i : Fin n, f (ix1 (⟨16 * i.val + x.val, by have := i.isLt; omega⟩ : Fin 256)) := by
  induction n with
  | zero => simp only [Finset.univ_eq_empty, Finset.sum_empty]; exact Ideal.ofBits_zero_f32
  | succ n ih =>
    have hlt : n < k0_t2_loop.trips := hn
    have es : tots f (n + 1) = k0_pay12 (tots f n) (fun y => f ((gatR ⟨n, hlt⟩).emb y)) := dif_pos hlt
    rw [es, Fin.sum_univ_castSucc]
    refine congrArg₂ (· + ·) (ih (by omega)) ?_
    rw [shapeCast_self]
    refine congrArg f (funext fun a => Fin.ext ?_)
    refine (ValueKit.rect_emb_unit_val _ _ _ _ _).trans ?_
    match a with
    | ⟨0, _⟩ => exact congrArg (· + x.val) (congrFun (k0_off6_eq ⟨n, hlt⟩) 0)

/-- The negated sum of sixteen lanes. -/
theorem pay13_apply (v : FVec Ideal S16 .f32) (x : S16.Idx) : k0_pay13 v x = -∑ l : Fin 16, v (ix1 l) := by
  have e : ∀ (o : ℕ) (ho : o < 16) (h : S16.Slices ![o] S1) (h' : ∀ a, (![0] : Fin 1 → ℕ) a < S1.size a),
      extractAt ![0] (extractStridedSlice S1 ![o] v h) h' = v (ix1 (⟨o, ho⟩ : Fin 16)) := fun o ho h h' =>
    extractStridedSlice_apply _ v h _ _ fun a => match a with | ⟨0, _⟩ => rfl
  have z : (Scalar.ofBits .f32 0x00000000#32 : Ideal .f32) = (0 : EReal) := Ideal.ofBits_zero_f32
  have s : (∑ l : Fin 16, v (ix1 l)) = ((((((((((((((((v (ix1 0) + v (ix1 1) : EReal) + v (ix1 2)) + v (ix1 3)) + v (ix1 4)) + v (ix1 5)) + v (ix1 6)) + v (ix1 7))
      + v (ix1 8)) + v (ix1 9)) + v (ix1 10)) + v (ix1 11)) + v (ix1 12)) + v (ix1 13)) + v (ix1 14)) + v (ix1 15)) : EReal) := by
    simp only [Fin.sum_univ_castSucc, Fin.sum_univ_zero, zero_add]; rfl
  rw [← zero_sub, s]
  unfold k0_pay13
  simp only [broadcast]
  rw [e 0 (by decide), e 1 (by decide), e 2 (by decide), e 3 (by decide), e 4 (by decide), e 5 (by decide), e 6 (by decide), e 7 (by decide), e 8 (by decide), e 9 (by decide),
    e 10 (by decide), e 11 (by decide), e 12 (by decide), e 13 (by decide), e 14 (by decide), e 15 (by decide), z]
  rfl

end Cert.Proof.K

end
-- ==== Proof.Ref.lean ====
/-
  The reference's result over the extended reals: minus the sum over the samples of the table's element at the sample's
  class times the sample's reward.
-/
module

public import proofs.«01_k».proof.Proof.Gen.ReferenceIdeal.Run
public import Idealize.ShloMosaic.Lib.ReduceAll
public import Idealize.ShloMosaic.Lib.WordCmp
public import Idealize.ShloMosaic.Lib.IdealHost
public import Idealize.ShloMosaic.Lib.ValueIdx
public import Idealize.ShloMosaic.Lib.Pipeline.Value
public import Idealize.ShloMosaic.Lib.Pointwise.Reduce
public import Idealize.ShloMosaic.Lib.Pointwise.Reshape
public import Idealize.ShloMosaic.PureOps.Ideal.Laws

@[expose] public section

noncomputable section

namespace Cert.Proof.Ref

open Cert.ReferenceIdeal Cert.ReferenceIdeal.Gen
open Idealize.ShloMosaic Idealize.ShloMosaic.WordCmp

/-- A sample's contribution: the table's element in the sample's row and at its class, times its reward. -/
def term (a : FVec Ideal S1024x100000 .f32) (t : IVec S1024 32) (r : FVec Ideal S1024 .f32) (n : Fin 1024) : EReal :=
  a (ix2 n ⟨(t (ix1 n)).toNat % 100000, Nat.mod_lt _ (by decide)⟩) * r (ix1 n)

variable (a : FVec Ideal S1024x100000 .f32) (t : IVec S1024 32) (r : FVec Ideal S1024 .f32)

/-- The classes as a column, with the wrap of negative ones, as an array of start indices. -/
abbrev starts : IVec S1024x1x1 32 :=
  shapeCast S1024x1x1 (select (cmpi .slt (shapeCast S1024x1 t shapeCasts_S1024_S1024x1) (broadcastInDim S1024x1 ![] bcast_S_S1024x1 (constantI S_ 32 0#32)))
    (addi (shapeCast S1024x1 t shapeCasts_S1024_S1024x1) (broadcastInDim S1024x1 ![] bcast_S_S1024x1 (constantI S_ 32 100000#32)))
    (shapeCast S1024x1 t shapeCasts_S1024_S1024x1)) shapeCasts_S1024x1_S1024x1x1

/-- A class in range is not wrapped: the start index of sample `y 0` is its class. -/
theorem starts_apply (h : ∀ x, (t x).toNat < 100000) (y : S1024x1x1.Idx) : starts t y = t (ix1 ⟨(y 0).val, (y 0).isLt⟩) := by
  have e : shapeCast S1024x1 t shapeCasts_S1024_S1024x1 (ix2 (⟨(y 0).val, (y 0).isLt⟩ : Fin 1024) (0 : Fin 1)) = t (ix1 ⟨(y 0).val, (y 0).isLt⟩) :=
    shapeCast_apply _ _ _ _ (by rw [rowMajor_val1, Shape.rowMajor_val_two]; simp)
  unfold starts
  rw [shapeCast_apply _ _ y (ix2 (⟨(y 0).val, (y 0).isLt⟩ : Fin 1024) (0 : Fin 1)) (by
    have h1 : (y 1).val = 0 := by have := (y 1).isLt; simp at this; omega
    have h2 : (y 2).val = 0 := by have := (y 2).isLt; simp at this; omega
    rw [Shape.rowMajor_val_two, Shape.rowMajor_val_three]; simp [h1, h2])]
  simp only [select, cmpi, addi, broadcastInDim, constantI, e]
  rw [cmpi_slt_zero, decide_eq_false (by have := h (ix1 ⟨(y 0).val, (y 0).isLt⟩); omega)]
  rfl

/-- The range check passes at every sample. -/
theorem check_apply (h : ∀ x, (t x).toNat < 100000) (j : S1024x1.Idx) :
    Host.reduce IntOp.andi (andi (cmpi .sge (starts t) (broadcastInDim S1024x1x1 ![] bcast_S_S1024x1x1 (constantI S_ 32 0#32)))
      (cmpi .sle (starts t) (broadcastInDim S1024x1x1 ![0, 1, 2] bcast_S1x1x1_S1024x1x1_0_1_2 (broadcastInDim S1x1x1 ![2] bcast_S1_S1x1x1_2 (constantI S1 32 99999#32)))))
      (constantI S_ 1 1#1) reducesTo_S1024x1x1_S1024x1_d2 h_S_ j = 1#1 := by
  refine Host.reduce_andi_one _ _ _ _ _ rfl fun y => ?_
  simp only [andi, cmpi, broadcastInDim, constantI, starts_apply t h]
  have hb := h (ix1 ⟨(y 0).val, (y 0).isLt⟩)
  rw [cmpi_sge_zero, cmpi_sle_of_lt (by omega) (by decide), andi_ofBool, ofBool_eq_one_iff]
  simp only [Bool.and_eq_true, decide_eq_true_eq]
  refine ⟨by omega, ?_⟩
  rw [show (99999#32 : BitVec 32).toNat = 99999 from rfl]; omega

/-- The gather at sample `n`: the table's element in row `n`, at the column that the start index names, kept within the table. -/
theorem gather_apply (idx : IVec S1024x1x1 32) (n : Fin 1024) :
    Host.gather gather_S1024x100000_S1024x1x1_S1024x1_n_1_0_0_1_2_11 a idx (ix2 n 0)
      = a (ix2 n ⟨min (idx (ix3 n 0 0)).toInt.toNat 99999, by omega⟩) := by
  set D := gather_S1024x100000_S1024x1x1_S1024x1_n_1_0_0_1_2_11 with hD
  refine congrArg a (funext fun b => Fin.ext ?_)
  show D.start (ix2 n 0) idx b + D.batchCoord (ix2 n 0) b + D.offCoord (ix2 n 0) b = _
  have hb : b = (0 : Fin 2) ∨ b = (1 : Fin 2) := by
    rcases b with ⟨i, hi⟩
    have hi' : i < 2 := hi
    rcases (by omega : i = 0 ∨ i = 1) with h | h
    · exact .inl (Fin.ext h)
    · exact .inr (Fin.ext h)
  rcases hb with rfl | rfl
  · rw [D.start_batching _ _ _ (List.mem_singleton.mpr rfl),
      D.offCoord_eq_zero _ _ (fun h => ((D.mem_sKept _).mp h).2 (List.mem_singleton.mpr rfl)), Nat.zero_add, Nat.add_zero]
    unfold GatherDims.batchCoord
    rw [dif_pos (show (0 : Fin 2) ∈ D.operandBatchingDims from List.mem_singleton.mpr rfl)]
    rfl
  · rw [D.batchCoord_eq_zero _ _ (fun h => absurd (congrArg Fin.val (List.mem_singleton.mp h)) Nat.one_ne_zero),
      D.offCoord_eq_zero _ _ (fun h => ((D.mem_sKept _).mp h).1 (List.mem_singleton.mpr rfl)), Nat.add_zero]
    unfold GatherDims.start
    rw [dif_pos (show (1 : Fin 2) ∈ D.startIndexMap from List.mem_singleton.mpr rfl)]
    have hs : ∀ k, D.siIdx (ix2 n 0) k = ix3 n 0 0 := fun k => by
      have hk : k.val = 0 := by have := k.isLt; change k.val < 1 at this; omega
      funext c; refine Fin.ext ?_
      match c with
      | ⟨0, _⟩ => rfl
      | ⟨1, _⟩ => rfl
      | ⟨2, _⟩ => exact hk
    rw [hs]
    rfl

/-- The masked gather, read back as a vector, at sample `n`. -/
abbrev gathered : FVec Ideal S1024 .f32 :=
  shapeCast S1024 (select (Host.reduce IntOp.andi (andi (cmpi .sge (starts t) (broadcastInDim S1024x1x1 ![] bcast_S_S1024x1x1 (constantI S_ 32 0#32)))
      (cmpi .sle (starts t) (broadcastInDim S1024x1x1 ![0, 1, 2] bcast_S1x1x1_S1024x1x1_0_1_2 (broadcastInDim S1x1x1 ![2] bcast_S1_S1x1x1_2 (constantI S1 32 99999#32)))))
      (constantI S_ 1 1#1) reducesTo_S1024x1x1_S1024x1_d2 h_S_)
    (Host.gather gather_S1024x100000_S1024x1x1_S1024x1_n_1_0_0_1_2_11 a (starts t))
    (broadcastInDim S1024x1 ![] bcast_S_S1024x1 (constant (F := Ideal) S_ .f32 0x7FC00000#32))) shapeCasts_S1024x1_S1024

theorem gathered_apply (h : ∀ x, (t x).toNat < 100000) (n : Fin 1024) :
    gathered a t (ix1 n) = a (ix2 n ⟨(t (ix1 n)).toNat % 100000, Nat.mod_lt _ (by decide)⟩) := by
  unfold gathered
  rw [shapeCast_apply _ _ (ix1 n) (ix2 n (0 : Fin 1)) (by rw [rowMajor_val1, Shape.rowMajor_val_two]; simp)]
  simp only [select, check_apply t h]
  rw [WordCmp.select_one, gather_apply]
  refine congrArg (fun k => a (ix2 n k)) (Fin.ext ?_)
  have hb := h (ix1 n)
  show min (starts t (ix3 n 0 0)).toInt.toNat 99999 = _
  rw [starts_apply t h]
  show min (t (ix1 n)).toInt.toNat 99999 = (t (ix1 n)).toNat % 100000
  rw [toInt_eq_toNat_of_lt_half (by omega), Int.toNat_natCast, Nat.mod_eq_of_lt hb]
  omega

/-- The reference's result. -/
theorem value (h : ∀ x, (t x).toNat < 100000) :
    (Host.negf (Host.reduceAdd (mulf (gathered a t) r) (constant (F := Ideal) S_ .f32 0x00000000#32) reducesTo_S1024_S_d0 h_S_) : FVec Ideal S_ .f32)
      = fun _ => -∑ n : Fin 1024, term a t r n := by
  funext j
  show -(Ideal.hostReduceAdd reducesTo_S1024_S_d0 (mulf (gathered a t) r) (Ideal.ofBits .f32 0x00000000#32) j) = _
  rw [Ideal.hostReduceAdd_r1_a0, Ideal.ofBits_zero_f32, zero_add]
  refine congrArg _ (Finset.sum_congr rfl fun n _ => ?_)
  show gathered a t (ix1 n) * r (ix1 n) = _
  rw [gathered_apply a t h]; rfl

end Cert.Proof.Ref

end
-- ==== Proof.Launch.lean ====
/-
  The launch's ghost state: the sixteen tasks' barrier cells, and each task's barrier kit out of what the launch hands over.
-/
module

public import proofs.«01_k».proof.Proof.Setup

@[expose] public section

noncomputable section

namespace Cert.Proof.K

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) [FloatOps F]

/-! ## The call's tasks among the machine's -/

/-- The SparseCore that the call runs on. -/
abbrev c₀ : Fin τ.nSC := ⟨0, by decide⟩
/-- A task of the call: its device and its number. -/
abbrev Task : Type := Dev nD × Fin τ.nSub
abbrev cell (x : Task) : GSem nD τ sig := bcell x.1 c₀ x.2

omit [FloatOps F] in
/-- Of a resource that only the call's SparseCore has, the whole is that one. -/
theorem bigSep_c₀ (Φ : Fin τ.nSC → sProp 𝕄) : (bigSep Finset.univ fun c : Fin τ.nSC => if c.val < 1 then Φ c else iprop(emp)) = Φ c₀ := by
  rw [SparseCore.bigSep_erase' (Finset.mem_univ c₀),
    show (bigSep (Finset.univ.erase c₀) fun c : Fin τ.nSC => if c.val < 1 then Φ c else iprop(emp)) = bigSep (Finset.univ.erase c₀) fun _ => (iprop(emp) : sProp 𝕄) from
      bigSep_congr fun c hc => if_neg fun h => (Finset.mem_erase.mp hc).1 (Fin.ext (Nat.lt_one_iff.mp h)), bigSep_emp']
  exact BI.Entails.antisymm sep_emp.1 sep_emp.2

omit [FloatOps F] in
/-- The same, of every task of the machine. -/
theorem bigSep_task (Φ : Dev nD → Fin τ.nSC → Fin τ.nSub → sProp 𝕄) :
    (bigSep Finset.univ fun x : Dev nD × Fin τ.nSC × Fin τ.nSub => if x.2.1.val < 1 then Φ x.1 x.2.1 x.2.2 else iprop(emp))
      = bigSep Finset.univ fun y : Task => Φ y.1 c₀ y.2 := by
  rw [bigSep_univ_prod, bigSep_univ_prod]
  refine bigSep_congr fun d _ => ?_
  have e : (fun c : Fin τ.nSC => bigSep Finset.univ fun i : Fin τ.nSub => if c.val < 1 then Φ d c i else iprop(emp))
      = fun c => if c.val < 1 then bigSep Finset.univ (fun i => Φ d c i) else iprop(emp) := by
    funext c
    by_cases hc : c.val < 1
    · simp only [hc, ↓reduceIte]
    · simp only [hc, ↓reduceIte]; exact bigSep_emp' _
  exact (bigSep_univ_prod _).trans ((congrArg (bigSep Finset.univ) e).trans (bigSep_c₀ fun c => bigSep Finset.univ fun i => Φ d c i))

omit [FloatOps F] in
theorem cell_injective : Function.Injective cell := fun a b e =>
  Prod.ext (Prod.mk.inj (Prod.mk.inj e).1).1 (Proc.scVector.inj (Prod.mk.inj (Prod.mk.inj e).1).2).2

/-! ## The ghost state -/

/-- The barrier cells of the call's tasks, and each task's token in every such cell of its device. -/
def bCells : Finset (GSem nD τ sig) := Finset.univ.image cell
def bToks : Finset (GSem nD τ sig × ℕ × ℕ) :=
  (Finset.univ : Finset (Task × Fin (grid0.bound 1))).image fun x => (cell (x.1.1, x.2.castLE hsub0), 0, x.1.2.val)
def u₀ : UU := (initOf (K (F := F)).hsCells (K (F := F)).hsToks, (initOf bCells bToks, 1))

omit [FloatOps F] in
theorem bCells_tasks (Φ : GSem nD τ sig → sProp 𝕄) : bigSep bCells Φ = bigSep Finset.univ fun x : Task => Φ (cell x) := by
  unfold bCells; exact SparseCore.bigSep_image_of_injOn cell_injective.injOn Φ

omit [FloatOps F] in
theorem bToks_tasks : (bigSep bToks fun x => (dutyTok EB x.1 x.2.1 x.2.2 : sProp 𝕄))
    = bigSep Finset.univ fun x : Task => bigSep Finset.univ fun j : Fin (grid0.bound 1) => dutyTok EB (cell (x.1, j.castLE hsub0)) 0 x.2.val := by
  unfold bToks
  rw [SparseCore.bigSep_image_of_injOn, bigSep_univ_prod]
  rintro ⟨⟨d, i⟩, j⟩ - ⟨⟨d', i'⟩, j'⟩ - e
  have hc := cell_injective (Prod.mk.inj e).1
  have hi : i = i' := Fin.ext (Prod.mk.inj (Prod.mk.inj e).2).2
  have hj : j = j' := Fin.ext (congrArg (fun x : Task => x.2.val) hc)
  have hd : d = d' := congrArg (fun x : Task => x.1) hc
  rw [hd, hi, hj]

omit [FloatOps F] in
/-- The ghost state's two parts that are not the transfers' counters. -/
theorem ownU_parts (a : UH) (b : UB) : (ownU ((a, (b, 1)) : UU) : sProp 𝕄) ⊢ iprop(BI.own (EH a) ∗ BI.own (EB b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

/-- The tasks' barrier semaphores at zero are among the free ones. -/
theorem bars_free : ((K (F := F)).freeOn (· ∈ bCells) : sProp 𝕄) ⊢ bigSep bCells fun g => semVal g 0 := by
  rw [bCells_tasks, ← bigSep_task (fun d c i => semVal (bcell d c i) 0)]
  unfold SparseCore.Cfg.freeOn
  refine sep_elim_right.trans (bigSep_mono fun x _ => ?_)
  split
  · next hc =>
    refine bigSep_elim (Φ := fun sm : SemLoc sig => (semVal (V x.1 x.2.1 x.2.2, sm) 0 : sProp 𝕄)) (Finset.mem_filter.mpr
      ⟨Finset.mem_erase.mpr ⟨fun h => sc_bar0_ne_go (SemLoc.reg.inj h), Finset.mem_filter.mpr ⟨Finset.mem_univ _, by decide⟩⟩, ?_⟩)
    obtain ⟨d, c, i⟩ := x
    obtain rfl : c = c₀ := Fin.ext (Nat.lt_one_iff.mp hc)
    exact Finset.mem_image_of_mem cell (Finset.mem_univ (d, i))
  · exact fun _ _ => trivial

/-- The barrier cells' invariants. -/
theorem bars_inv : iprop((bigSep bCells fun g => (semVal g 0 : sProp 𝕄)) ∗ bigSep bCells fun g => roundState EB (bRd m) g 0)
    ⊢ |={Set.univ}=> iprop(∃ κ : GSem nD τ sig → ℕ, bigSep bCells fun g => cellInv EB (bRd m) (κ g) g) := by
  refine (Rounds.bodies_intro EB (bRd m) bCells).trans ((inv_alloc_family bCells (Rounds.body EB (bRd m)) ∅ (E := Set.univ)).trans ?_)
  iintro H
  imod H with ⟨%κ, -, Hinv⟩
  imodintro; iexists κ; iexact Hinv

omit [FloatOps F] in
theorem sum_units (g : GSem nD τ sig) (ι : HIx 1) (n : ℕ) : ∑ _ : Fin n, tallyAt g ι 1 = (tallyAt g ι n : CellTallies nD τ sig (HIx 1)) := by
  induction n with
  | zero => rw [tallyAt_zero]; exact Finset.sum_of_isEmpty _
  | succ n ih => rw [Fin.sum_univ_castSucc, ih, tallyAt_add]

theorem oxFrom_V (d : Dev nD) (c : Fin τ.nSC) (i : Fin τ.nSub) : (P m).oxFrom 0 (V d c i) = if c.val < 1 then oxV d c else 0 := by
  rw [show (0 : ℕ) = (0 : Fin 1).val from rfl, (P m).oxFrom_step, (P m).oxFrom_end _ (n := (0 : Fin 1).val + 1) le_rfl, add_zero]; rfl

/-- The credits of the launch, regrouped: each task the sixteen units of its own cell. -/
theorem bars_cred : ((P m).oxCred : sProp 𝕄) ⊢ bigSep Finset.univ fun x : Task => cred (tallyAt (cell x) (some 0) (grid0.bound 1)) := by
  unfold SparseCore.Cfg.Pay.oxCred
  rw [SparseCore.Cfg.bigSep_threads (fun thr : Thread nD τ => (cred ((P m).oxFrom 0 thr) : sProp 𝕄))]
  refine sep_elim_right.trans (sep_elim_right.trans ?_)
  have e : (fun x : Dev nD × Fin τ.nSC × Fin τ.nSub => (cred ((P m).oxFrom 0 (V x.1 x.2.1 x.2.2)) : sProp 𝕄))
      = fun x => if x.2.1.val < 1 then cred (oxV x.1 x.2.1) else iprop(emp) := by
    funext x; rw [oxFrom_V]; split
    · rfl
    · exact cred_zero
  rw [e, bigSep_task (fun d c _ => cred (oxV d c)), bigSep_univ_prod, bigSep_univ_prod]
  refine bigSep_mono fun d _ => ?_
  dsimp only
  unfold oxV
  rw [SparseCore.Cfg.cred_finsum, bigSep_univ_comm]
  refine bigSep_mono fun j _ => ?_
  rw [← SparseCore.Cfg.cred_finsum, sum_units]; rfl

/-! ## The kits -/

/-- What every task has alike. -/
abbrev common : sProp 𝕄 :=
  iprop((∃ κ : GSem nD τ sig → ℕ, bigSep Finset.univ fun x : Task => cellInv EB (bRd m) (κ (cell x)) (cell x))
    ∗ bigSep Finset.univ fun x : Task => reached EB (cell x) 0)

/-- A device's tasks, of what all tasks have. -/
theorem of_tasks (Φ : Task → sProp 𝕄) [∀ x, BI.Persistent (Φ x)] (d : Dev nD) :
    (bigSep Finset.univ fun x : Task => Φ x) ⊢ bigSep Finset.univ fun j : Fin (grid0.bound 1) => Φ (d, j.castLE hsub0) :=
  bigSep_intro_persistent fun j _ => bigSep_elim (Φ := Φ) (Finset.mem_univ (d, j.castLE hsub0))

/-- A task's kit, of what all have and its own position, tokens and credit. -/
theorem bkit_intro (x : Task) : iprop(common m ∗ atPos EB (cell x) 0 ∅ 0
      ∗ (bigSep Finset.univ fun j : Fin (grid0.bound 1) => dutyTok EB (cell (x.1, j.castLE hsub0)) 0 x.2.val)
      ∗ cred (tallyAt (cell x) (some 0) (grid0.bound 1))) ⊢ (bkit m x.1 c₀ x.2 : sProp 𝕄) := by
  unfold bkit
  iintro ⟨⟨⟨%κ, #Hinv⟩, #Hr⟩, Hat, Htok, Hcred⟩
  isplitr
  · iexists κ; iapply (of_tasks (fun y => cellInv EB (bRd m) (κ (cell y)) (cell y)) x.1); iexact Hinv
  isplitl [Htok]; · iexact Htok
  isplitr; · iapply (of_tasks (fun y => reached EB (cell y) 0) x.1); iexact Hr
  isplitl [Hat]; · iexact Hat
  iexact Hcred

/-- Every thread's own resources are its task's kit, or nothing. -/
theorem x_tasks : (bigSep Finset.univ fun thr : Thread nD τ => bigSep Finset.univ fun q : Fin 1 => (P m).x q thr : sProp 𝕄)
    = bigSep Finset.univ fun x : Task => bkit m x.1 c₀ x.2 := by
  have e : (fun thr : Thread nD τ => bigSep Finset.univ fun q : Fin 1 => ((P m).x q thr : sProp 𝕄)) = fun thr => (P m).x 0 thr :=
    funext fun _ => bigSep_univ_of_subsingleton (0 : Fin 1)
  rw [e, SparseCore.Cfg.bigSep_threads, ← bigSep_task (fun d c i => bkit m d c i)]
  have eT : (bigSep Finset.univ fun d : Dev nD => ((P m).x 0 (SparseCore.T d) : sProp 𝕄)) = iprop(emp) := bigSep_emp' _
  have eS : (bigSep Finset.univ fun x : Dev nD × Fin τ.nSC => ((P m).x 0 (S x.1 x.2) : sProp 𝕄)) = iprop(emp) := bigSep_emp' _
  rw [eT, eS]
  exact (BI.Entails.antisymm emp_sep.1 emp_sep.2).trans (BI.Entails.antisymm emp_sep.1 emp_sep.2)

/-- The launch's own resources become the handshakes' rounds and every task's kit. -/
theorem hu₀ : iprop(ownU (u₀ (F := F)) ∗ (P m).oxCred ∗ (K (F := F)).freeOn (· ∈ bCells))
    ⊢ |={Set.univ}=> iprop(BI.own (EH (initOf (K (F := F)).hsCells (K (F := F)).hsToks)) ∗ (bigSep Finset.univ fun _ : Dev nD => iprop(emp))
        ∗ (bigSep Finset.univ fun thr : Thread nD τ => bigSep Finset.univ fun q : Fin 1 => (P m).x q thr) : sProp 𝕄) := by
  unfold u₀
  rw [x_tasks]
  iintro ⟨Hu, Hcred, Hfree⟩
  ihave H := (ownU_parts _ _) $$ Hu
  icases H with ⟨HH, HB⟩
  imod (Rounds.fund EB (bRd m) bCells bToks) $$ HB with ⟨Hst, #Hr, Hat, Htok⟩
  ihave Hsems := (bars_free (F := F)) $$ Hfree
  imod (bars_inv m) $$ [Hsems Hst] with ⟨%κ, #Hinv⟩
  · isplitl [Hsems] <;> iassumption
  ihave Hcred' := (bars_cred m) $$ Hcred
  ihave Hinv' := (Entails.of_eq (bCells_tasks (F := F) fun g => cellInv EB (bRd m) (κ g) g)) $$ Hinv
  ihave Hr' := (Entails.of_eq (bCells_tasks (F := F) fun g => reached EB g 0)) $$ Hr
  ihave Hat' := (Entails.of_eq (bCells_tasks (F := F) fun g => atPos EB g 0 ∅ 0)) $$ Hat
  ihave Htok' := (Entails.of_eq (bToks_tasks (F := F))) $$ Htok
  imodintro
  isplitl [HH]; · iexact HH
  isplitr; · rw [bigSep_emp']; iempintro
  iapply (bigSep_with_persistent (R := common m) (Φ := fun x : Task => iprop(atPos EB (cell x) 0 ∅ 0
      ∗ (bigSep Finset.univ fun j : Fin (grid0.bound 1) => dutyTok EB (cell (x.1, j.castLE hsub0)) 0 x.2.val)
      ∗ cred (tallyAt (cell x) (some 0) (grid0.bound 1)))) (fun x _ => bkit_intro m x))
  isplitr
  · isplitl; · iexists κ; iexact Hinv'
    iexact Hr'
  rw [bigSep_sep', bigSep_sep']
  isplitl [Hat']; · iexact Hat'
  isplitl [Htok']; · iexact Htok'
  iexact Hcred'

end Cert.Proof.K

end
-- ==== Proof.Tile.lean ====
/-
  One task of the SparseCore kernel, run once at symbolic coordinates: from its blocks of the targets and rewards, its
  share of the table and its row of the shared scratch, to its partial sums in that row; through the barrier; and task 0
  on to the call's result.
-/
module

public import proofs.«01_k».proof.Proof.Setup

@[expose] public section

noncomputable section

namespace Cert.Proof.K

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) [FloatOps F] (d : Dev nD) (L : grid0.Coords)

/-- Every target names a row of the table. -/
def PreOK : Prop := ∀ (d : Dev nD) (x : S1024.Idx), ((m (tLoc d) : S1024.Idx → Elt F .i32) x : BitVec 32).toNat < 100000

/-! ## The subcore's own buffers and semaphores -/

omit [FloatOps F] in
/-- A star over a finite set, some of its members named one after the other. -/
theorem bigSep_open {I : Type} [DecidableEq I] (Φ : I → sProp 𝕄) : ∀ (l : List I) (s : Finset I), l.Nodup → (∀ x ∈ l, x ∈ s) →
    bigSep s Φ = l.foldr (fun x X => iprop(Φ x ∗ X)) (bigSep (l.foldl Finset.erase s) Φ)
  | [], _, _, _ => rfl
  | x :: l, s, hn, hm => by
    rw [SparseCore.bigSep_erase' (hm x List.mem_cons_self), List.foldr_cons, List.foldl_cons,
      bigSep_open Φ l (s.erase x) (List.nodup_cons.mp hn).2 fun y hy =>
        Finset.mem_erase.mpr ⟨fun e => (List.nodup_cons.mp hn).1 (e ▸ hy), hm y (List.mem_cons_of_mem _ hy)⟩]

/-- The task's thread, a buffer of its own, a DMA semaphore of its own. -/
abbrev thr (d : Dev nD) (L : grid0.Coords) : Thread nD τ := V d (cV L) (jV L)
abbrev own (d : Dev nD) (L : grid0.Coords) (b : Ref sig .scVector) : Loc nD τ sig := (thr d L).loc b
abbrev dcell (d : Dev nD) (L : grid0.Coords) (s : DmaSem sig) : GSem nD τ sig := (thr d L, .dma s)

/-- The barrier's first task. -/
abbrev j₀ : Fin (grid0.bound 1) := ⟨0, by decide⟩

/-- The buffers and DMA semaphores the kernel names. -/
abbrev scr : List (Ref sig .scVector) := [cc0_scratch0, cc0_scratch1, cc0_scratch2, cc0_scratch3, cc0_scratch4, cc0_scratch5]
abbrev sms : List (DmaSem sig) := [cc0_scratch7.sem, cc0_scratch8.sem, cc0_scratch9.sem, cc0_scoped0.sem, cc0_scoped1.sem, cc0_scoped2.sem]

theorem scr_nodup : scr.Nodup := by decide

abbrev restRefs (L : grid0.Coords) : Finset (DevRef τ sig) :=
  (scr.map (Proc.scVector (cV L) (jV L)).devRef).foldl Finset.erase (ownRefs (τ := τ) (.scVector (cV L) (jV L)))
abbrev restCells (d : Dev nD) (L : grid0.Coords) : Finset (GSem nD τ sig) := (sms.map (dcell d L)).foldl Finset.erase (ownCells (thr d L))

omit [FloatOps F] in
theorem ownSems0_V : (ownSems0 (thr d L) : sProp 𝕄)
    = iprop(semVal (dcell d L cc0_scratch7.sem) 0 ∗ semVal (dcell d L cc0_scratch8.sem) 0 ∗ semVal (dcell d L cc0_scratch9.sem) 0
        ∗ semVal (dcell d L cc0_scoped0.sem) 0 ∗ semVal (dcell d L cc0_scoped1.sem) 0 ∗ semVal (dcell d L cc0_scoped2.sem) 0
        ∗ bigSep (restCells d L) fun g => semVal g 0) := by
  unfold SparseCore.Cfg.ownSems0
  exact bigSep_open _ (sms.map (dcell d L)) _ (List.Nodup.map (fun a b e => SemLoc.dma.inj (Prod.mk.inj e).2) (by decide)) fun x hx => by
    obtain ⟨s, hs, rfl⟩ := List.mem_map.mp hx
    exact mem_ownCells.mpr ⟨rfl, (by decide : ∀ s ∈ sms, (SemLoc.dma s : SemLoc sig).isScoped .scVector = true) s hs⟩

omit [FloatOps F] in
theorem ownBufs_V : (ownBufs (thr d L) : sProp 𝕄)
    = iprop((∃ f, own d L cc0_scratch0 ↦{fullShare} f) ∗ (∃ f, own d L cc0_scratch1 ↦{fullShare} f) ∗ (∃ f, own d L cc0_scratch2 ↦{fullShare} f)
        ∗ (∃ f, own d L cc0_scratch3 ↦{fullShare} f) ∗ (∃ f, own d L cc0_scratch4 ↦{fullShare} f) ∗ (∃ f, own d L cc0_scratch5 ↦{fullShare} f)
        ∗ bigSep (restRefs L) fun b => iprop(∃ f, ((d, b) : Loc nD τ sig) ↦{fullShare} f)) := by
  unfold SparseCore.Cfg.ownBufs
  refine bigSep_open _ (scr.map (Proc.scVector (cV L) (jV L)).devRef) _ (List.Nodup.map (Proc.devRef_injective _) scr_nodup) fun x hx => ?_
  refine SparseCore.Cfg.mem_ownRefs_of_owner (p := Proc.scVector (cV L) (jV L)) ?_
  simp only [scr, List.map_cons, List.map_nil, List.mem_cons, List.not_mem_nil, _root_.or_false] at hx
  rcases hx with rfl | rfl | rfl | rfl | rfl | rfl <;> rfl

/-! ## The barrier's payloads -/

/-- Before the barrier, the task's row of the shared scratch at its partial sums is what its duties hand over: task 0's
    round the row, the other rounds nothing. -/
theorem pays_intro : (shRow d (cV L) L (sums m d) : sProp 𝕄)
    ⊢ bigSep Finset.univ fun j : Fin (grid0.bound 1) => (bRd m).payload (bcell d (cV L) (j.castLE hsub0)) 0 (jV L).val := by
  have h16 : (jV L).val < 16 := (jL L).isLt
  rw [SparseCore.bigSep_erase' (Finset.mem_univ j₀),
    show (bigSep (Finset.univ.erase j₀) fun j : Fin (grid0.bound 1) => (bRd m).payload (bcell d (cV L) (j.castLE hsub0)) 0 (jV L).val)
      = bigSep (Finset.univ.erase j₀) fun _ => (iprop(emp) : sProp 𝕄) from
      bigSep_congr fun j hj => dif_neg fun h => (Finset.mem_erase.mp hj).1 (Fin.ext h.1), bigSep_emp']
  iintro H
  isplitl [H]
  · show _ ⊢ bPay m (bcell d (cV L) (j₀.castLE hsub0)) (jV L).val
    unfold bPay; dsimp only
    rw [dif_pos ⟨rfl, h16⟩, show crd ⟨(jV L).val, h16⟩ = L from crd_jL L]
  · iempintro

/-! ### The rows of the shared scratch -/

abbrev rowSet (i : Fin 16) : Finset S256.Idx := (shK (crd i)).view.set

omit [FloatOps F] in
theorem mem_row (i : Fin 16) (x : S256.Idx) : x ∈ (shK (crd i)).view.set ↔ (x 0).val / 16 = i.val := by
  rw [show (shK (crd i)).view.set = (rowR (crd i)).set from (View.set_slice _ _).trans Finset.map_refl, Rect.mem_set_unit]
  have h : k0_off5 (crd i) 0 = 16 * i.val := by rw [k0_off5_eq]; rfl
  constructor
  · intro hx
    have := hx 0
    rw [h] at this
    have h2 : S16.size 0 = 16 := rfl
    omega
  · intro hx a
    match a with
    | 0 =>
      have h2 : S16.size 0 = 16 := rfl
      rw [h]; omega

omit [FloatOps F] in
theorem row_disjoint : ∀ i ∈ (Finset.univ : Finset (Fin 16)), ∀ j ∈ (Finset.univ : Finset (Fin 16)), i ≠ j →
    Disjoint (shK (crd i)).view.set (shK (crd j)).view.set := fun i _ j _ h =>
  Finset.disjoint_left.mpr fun x hi hj => h (Fin.ext (((mem_row i x).mp hi).symm.trans ((mem_row j x).mp hj)))
omit [FloatOps F] in
theorem row_cover : (Finset.univ : Finset (Fin 16)).biUnion rowSet = Finset.univ :=
  Finset.eq_univ_iff_forall.mpr fun x => Finset.mem_biUnion.mpr
    ⟨⟨(x 0).val / 16, Nat.div_lt_of_lt_mul (x 0).isLt⟩, Finset.mem_univ _, (mem_row _ x).mpr rfl⟩

omit [FloatOps F] in
/-- The shared scratch is its sixteen rows. -/
theorem shAll_rows (c : Fin τ.nSC) (f : Buf (Elt F) (shLoc d c)) :
    (shAll d c f : sProp 𝕄) = bigSep Finset.univ fun i : Fin 16 => shRow d c (crd i) f := by
  unfold shAll shRow
  rw [← pointsTo_biUnion Finset.univ (ℓ := shLoc d c) (fun i : Fin 16 => (shK (crd i)).view.set) row_disjoint]
  exact congrArg (fun S : Finset S256.Idx => (shLoc d c ↦[S]{fullShare} f : sProp 𝕄)) row_cover.symm

/-- After the barrier, what task 0's round collected is the shared scratch, at all the partial sums; the others' nothing. -/
theorem pays_elim : (bigSep ((bRd m).duties (bcell d (cV L) (jV L)) 0 \ ∅) fun n => (bRd m).payload (bcell d (cV L) (jV L)) 0 n)
    ⊢ (lead L (shAll d (cV L) (sums m d)) : sProp 𝕄) := by
  unfold lead
  split
  · next h =>
    rw [Finset.sdiff_empty, bRd_duties₀, SparseCore.bigSep_image_of_injOn (fun a _ b _ e => Fin.ext e), shAll_rows]
    refine bigSep_mono fun i _ => ?_
    show bPay m (bcell d (cV L) (jV L)) i.val ⊢ _
    unfold bPay; dsimp only
    rw [dif_pos ⟨h, i.isLt⟩]
  · exact fun _ _ => trivial

end Cert.Proof.K

end
-- ==== Proof.Body.lean ====
/-
  The run of one task of the SparseCore kernel, at symbolic coordinates.
-/
module

public import Idealize.ShloMosaic.Lib.VecWindow
public import proofs.«01_k».proof.Proof.Tile

@[expose] public section

noncomputable section

namespace Cert.Proof.K

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) [FloatOps F] (d : Dev nD) (L : grid0.Coords)

omit [FloatOps F] in
theorem pts_own (b : Ref sig .scVector) (f : Buf (Elt F) (own d L b)) :
    ((Memref.whole b).view.loc (thr d L) ↦{fullShare} f : sProp 𝕄) = own d L b ↦{fullShare} f := rfl
omit [FloatOps F] in
theorem pts_tK (f : Buf (Elt F) (tLoc d)) :
    ((tK L).view.loc (thr d L) ↦[(tK L).view.set]{fullShare} f : sProp 𝕄) = tLoc d ↦[(tK L).view.set]{fullShare} f := rfl
omit [FloatOps F] in
theorem pts_rK (f : Buf (Elt F) (rLoc d)) :
    ((rK L).view.loc (thr d L) ↦[(rK L).view.set]{fullShare} f : sProp 𝕄) = rLoc d ↦[(rK L).view.set]{fullShare} f := rfl
omit [FloatOps F] in
theorem pts_pV (q : PosShare TreeShare) (f : Buf (Elt F) (pLoc d)) :
    ((pV).view.loc (thr d L) ↦{q} f : sProp 𝕄) = pLoc d ↦{q} f := rfl
omit [FloatOps F] in
theorem pts_oV (f : Buf (Elt F) (oLoc d)) :
    ((oV).view.loc (thr d L) ↦{fullShare} f : sProp 𝕄) = oLoc d ↦{fullShare} f := rfl
omit [FloatOps F] in
theorem pts_shK (f : Buf (Elt F) (shLoc d (cV L))) :
    ((shK L).view.loc (thr d L) ↦[(shK L).view.set]{fullShare} f : sProp 𝕄) = shRow d (cV L) L f := rfl
omit [FloatOps F] in
theorem pts_shB (f : Buf (Elt F) (shLoc d (cV L))) :
    ((shB).view.loc (thr d L) ↦{fullShare} f : sProp 𝕄) = shAll d (cV L) f := rfl

omit [FloatOps F] in
/-- A slice of a buffer held whole reads it at the slice's places. -/
theorem read_slice_at {sp : Space} {s : Shape} {e : EltTy} (M : Memref sig .scVector sp s e) (r : Rect s) (h : ∀ a, r.stride a = 1)
    (f : M.view.ty.Contents (Elt F)) (x : r.shape.Idx) : (M.slice r h).view.read (Elt F) f x = M.view.read (Elt F) f (r.emb x) := rfl

omit [FloatOps F] in
theorem tgt_lt (hpre : PreOK m) (x : S64.Idx) : (tgt m d L x : BitVec 32).toNat < 100000 := hpre d _

/-- The stream's payload is the gathered rows. -/
theorem payload_win (hn : S64.numel = S64x128.size (gathers_S100000x128_S64x128).axis') (hin : ∀ x, ((tB).view.read (Elt F) (tgt m d L) x).toNat
      < S100000x128.size (gathers_S100000x128_S64x128).axis) :
    SparseCore.gatherPayload gathers_S100000x128_S64x128 ((pK L).view.read (Elt F) (tbl m d)) (SparseCore.rows ((tB).view.read (Elt F) (tgt m d L)) hn hin)
      = win m d L := by
  unfold win
  congr 1
  funext k
  exact Fin.ext (Nat.mod_eq_of_lt (hin _)).symm

theorem accs_succ (fr : S64.Idx → Elt F .f32) (fw : S64x128.Idx → Elt F .f32) (k : Fin k0_t1_loop.trips) :
    accs L fr fw (k.val + 1) = trip L fr fw k (accs L fr fw k.val) := dif_pos k.isLt

theorem tots_succ (f : S256.Idx → Elt F .f32) (k : Fin k0_t2_loop.trips) :
    tots f (k.val + 1) = k0_pay12 (tots f k.val) (fun x => f ((gatR k).emb x)) := dif_pos k.isLt

/-- The task's row of the shared scratch, once its partial sums are in it, is that row of all the partial sums. -/
theorem row_part (f : Buf (Elt F) (shLoc d (cV L))) (w : S16.Idx → Elt F .f32) (hw : w = part m d L) :
    (shRow d (cV L) L ((shK L).view.writes (Elt F) f [⟨Rect.whole S16, w⟩]) : sProp 𝕄) = shRow d (cV L) L (sums m d) := by
  refine pointsTo_congr fun x hx => ?_
  rw [View.set, Finset.mem_map] at hx
  obtain ⟨y, -, hy⟩ := hx
  subst hy
  refine (show _ = w y from congrFun (View.read_writes_whole (shK L).view f w) y).trans ?_
  rw [hw]
  have h0 : (((rowR L).emb y) 0).val = 16 * (L 1).val + (y 0).val := by
    rw [show (((rowR L).emb y) 0).val = (k0_off5 L) 0 + 1 * (y 0).val from rfl, k0_off5_eq]; simp
  have hy16 : (y 0).val < 16 := (y 0).isLt
  show part m d L y = part m d (crd ⟨(((rowR L).emb y) 0).val / 16, _⟩) (lane ⟨(((rowR L).emb y) 0).val % 16, _⟩)
  have e1 : (⟨(((rowR L).emb y) 0).val / 16, Nat.div_lt_of_lt_mul (((rowR L).emb y) 0).isLt⟩ : Fin 16) = jL L :=
    Fin.ext (by show _ / 16 = (L 1).val; omega)
  have e2 : lane ⟨(((rowR L).emb y) 0).val % 16, Nat.mod_lt _ (by decide)⟩ = y := by
    funext a
    match a with
    | 0 => exact Fin.ext (by show _ % 16 = (y 0).val; omega)
  rw [e1, crd_jL, e2]

omit [FloatOps F] in
theorem cond1_iff : ∀ i : grid0.Coords, k0_cond1 i = 1#1 ↔ (i 1).val = 0 := by decide +kernel

set_option maxHeartbeats 4000000 in
theorem tile_body (hpre : PreOK m) (hF : (K (F := F)).Facts) (O : CellTallies nD τ sig (HIx 1)) (W : Waits sig (HIx 1)) (hO : ∀ g, O g none = 0)
    (hOlev : ∀ g ι, 0 < O g ι → 8 * (0 : Fin 1).val + 6 ≤ (K (F := F)).lev g ι) :
    iprop(levAts (K (F := F)).L (K (F := F)).lev ∗ bkit m d (cV L) (jV L) ∗ tileGo m d (cV L) L
        ∗ scopedBufs (thr d L) ∗ scopedSems0 (thr d L) ∗ owes (thr d L) (O + oxV d (cV L)) W)
      ⊢ wp frame (wpE (defs₀ (F := F)) 𝒱₀ (thr d L) none) Set.univ
          (cc0__sc_body L pV (Memref.isWhole_whole _) tV (Memref.isWhole_whole _) rV (Memref.isWhole_whole _) oV (Memref.isWhole_whole _)
            tB (Memref.isWhole_whole _) rB (Memref.isWhole_whole _) wB (Memref.isWhole_whole _) sB (Memref.isWhole_whole _)
            gB (Memref.isWhole_whole _) oB (Memref.isWhole_whole _) shB (Memref.isWhole_whole _)
            cc0_scratch7 cc0_scratch8 cc0_scratch9 cc0_scoped0 cc0_scoped1 cc0_scoped2)
          fun _ => iprop((tileTd m d (cV L) L ∗ semVal (bcell d (cV L) (jV L)) 0)
            ∗ scopedBufs (thr d L) ∗ scopedSems0 (thr d L)
            ∗ ∃ W', ⌜∀ p ∈ W', p ∈ W ∨ p.2 = none ∨ p.2 = some (0 : Fin 1)⌝ ∗ owes (thr d L) O W') := by
  simp only [cc0__sc_body_eq_skeleton]; unfold cc0__sc_body_skel
  rw [(K (F := F)).scopedBufs_V hF d (cV L) (jV L), SparseCore.Cfg.scopedSems0_V (Val := Elt F) d (cV L) (jV L), ownSems0_V, ownBufs_V]
  unfold bkit
  iintro ⟨#Hlv, ⟨⟨%κ, #Hinv⟩, Htoks, #Hrch, Hat, Hcred⟩, ⟨Ht, Hr, Hp, Ho, %fsh, Hsh⟩,
    ⟨⟨%f0, H0⟩, ⟨%f1, H1⟩, ⟨%f2, H2⟩, ⟨%f3, H3⟩, ⟨%f4, H4⟩, ⟨%f5, H5⟩, Hbufs⟩, ⟨S7, S8, S9, S0, S1, S2, Hsems⟩, HO⟩
  have hO' : ∀ g, (O + oxV d (cV L)) g none = 0 := fun g => by rw [Pi.add_apply, Finsupp.add_apply, hO g, oxV_none]
  ihave Hmw1 := (show levAts (K (F := F)).L (K (F := F)).lev ⊢ Transfers.MayWaits (thr d L) (default : HIx 1) (O + oxV d (cV L)) from
    (K (F := F)).mayWaits_none (thr := thr d L) hO') $$ Hlv
  ihave Hmw2 := (show levAts (K (F := F)).L (K (F := F)).lev ⊢ Transfers.MayWaits (thr d L) (default : HIx 1) O from
    (K (F := F)).mayWaits_none (thr := thr d L) hO) $$ Hlv
  ihave Ht' := (Entails.of_eq (pts_tK (F := F) d L _).symm) $$ Ht
  ihave Hr' := (Entails.of_eq (pts_rK (F := F) d L _).symm) $$ Hr
  ihave Hp' := (Entails.of_eq (pts_pV (F := F) d L _ _).symm) $$ Hp
  ihave Hsh' := (Entails.of_eq (pts_shK (F := F) d L _).symm) $$ Hsh
  ihave H0' := (Entails.of_eq (pts_own (F := F) d L cc0_scratch0 _).symm) $$ H0
  ihave H1' := (Entails.of_eq (pts_own (F := F) d L cc0_scratch1 _).symm) $$ H1
  ihave H2' := (Entails.of_eq (pts_own (F := F) d L cc0_scratch2 _).symm) $$ H2
  ihave H3' := (Entails.of_eq (pts_own (F := F) d L cc0_scratch3 _).symm) $$ H3
  ihave H4' := (Entails.of_eq (pts_own (F := F) d L cc0_scratch4 _).symm) $$ H4
  ihave H5' := (Entails.of_eq (pts_own (F := F) d L cc0_scratch5 _).symm) $$ H5
  sl_exec
  have e0 : View.write (Elt F) tB.view f0 (tile_body.sl.dma0 m d L) Finset.univ = tgt m d L := by
    rw [View.write_whole_univ]; rfl
  rw [e0]
  have hin : ∀ x, ((tB).view.read (Elt F) (tgt m d L) x).toNat < S100000x128.size (gathers_S100000x128_S64x128).axis := fun x => tgt_lt m d L hpre x
  have hN : ∀ h : S100000x128.Gathers 0 S64x128, ∑ j, ((wB).slice (S64x128.rowRect h.axis' j) (S64x128.stride_rowRect h.axis' j)).view.dmaCredit
      = (wB).view.dmaCredit := by decide
  iapply (SparseCore.wp_gatherFromWhole countersEmb 𝒱₀ (thr d L) none (hg := gathers_S100000x128_S64x128) (default : HIx 1)
      (wB).view.dmaCredit (hN _) (by decide) hin) $$ [Hp' H2' H0' S9]
  · isplitl [Hp']; · iexact Hp'
    isplitl [H2']; · iexact H2'
    isplitl [H0']; · iexact H0'
    iexact S9
  iintro Hfl
  sl_exec
  iapply (Transfers.wp_waitLocalO countersEmb 𝒱₀ (thr d L) none (default : HIx 1) (rfl : (wB).view.dmaCredit = _)) $$ [Hfl HO]
  · isplitl [Hfl]; · iexact Hfl
    isplitl [HO]; · iexact HO
    iapply (Transfers.MayWaits.elim (SemLoc.dma cc0_scratch9.sem)) $$ Hmw1
  iintro ⟨⟨H2', Hp', H0'⟩, S9, HO⟩
  have e2 : View.write (Elt F) wB.view f2 (SparseCore.gatherPayload gathers_S100000x128_S64x128 ((pK L).view.read (Elt F) (tbl m d))
      (SparseCore.rows ((tB).view.read (Elt F) (tgt m d L)) cc0__sc_body_skel._proof_4 hin)) Finset.univ = win m d L := by
    rw [View.write_whole_univ]; exact payload_win m d L _ hin
  rw [e2]
  have e1 : View.write (Elt F) rB.view f1 (tile_body.sl.dma0_1 m d L) Finset.univ = rwd m d L := by
    rw [View.write_whole_univ]; rfl
  rw [e1]
  sl_exec
  sl_for (fun n (a : Acc (F := F)) => iprop(⌜a = accs L (rwd m d L) (win m d L) n⌝
      ∗ ((rB).view.loc (thr d L) ↦{fullShare} rwd m d L) ∗ ((wB).view.loc (thr d L) ↦{fullShare} win m d L))) $$ [H1' H2']
  case region =>
    intro k a
    iintro ⟨%ha, H1, H2⟩
    unfold tile_body.sl.prog.body_1 k0_t1_body
    rw [k0_part1_eq_skeleton]
    unfold k0_part1_skel
    sl_exec
    have h56 : ∀ k : Fin k0_t1_loop.trips, tile_body.sl.v56 k = w56 k := by decide +kernel
    have h74 : ∀ k : Fin k0_t1_loop.trips, tile_body.sl.v74 k = w74 k := by decide +kernel
    rw [h56, h74]
    sl_step
    isplitr
    · ipureintro; rw [accs_succ, ← ha]; rfl
    isplitl [H1]; · iexact H1
    iexact H2
  · isplitr; · ipureintro; rfl
    isplitl [H1']; · iexact H1'
    iexact H2'
  iintro %acc ⟨%hacc, H1', H2'⟩
  sl_exec
  have eS : tile_body.sl.dma2 d L f3 acc = part m d L := by
    subst hacc; exact View.read_writes_full _ _ _ _ _
  ihave Hrow := (Entails.of_eq ((pts_shK d L _).trans (row_part m d L fsh _ eS))) $$ Hsh'
  -- the barrier: the row is task 0's
  ihave Hpays := (pays_intro m d L) $$ Hrow
  iapply (SparseCore.wp_subcoreBarrier 𝒱₀ none EB (bRd m) d (sc := cV L) (i := jV L) sc_bar0 (grid0.bound 1) hsub0 (L 1) rfl κ (fun _ => 0) (jV L).val
      (fun j => bRd_mem₀ m d _ _ _) (fun _ => rfl) (bRd_expect m d _ _) (some 0) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := thr d L) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, -, Hgot⟩
  imod (Rounds.cell_close EB (bRd m) (g := bcell d (cV L) (jV L)) (Set.mem_univ (κ _)) (fun h => h) (bRd_duties_succ m _)) $$ [Hat] with Hbar
  · isplitr
    · iapply (SparseCore.ent (bigSep_elim (Φ := fun j : Fin (grid0.bound 1) =>
        (cellInv EB (bRd m) (κ (bcell d (cV L) (j.castLE hsub0))) (bcell d (cV L) (j.castLE hsub0)) : sProp 𝕄)) (Finset.mem_univ (L 1)))); iexact Hinv
    · iexact Hat
  ihave Hall := (pays_elim m d L) $$ Hgot
  by_cases h1 : k0_cond1 L = 1#1
  · have hz := (cond1_iff L).mp h1
    ihave Ho1 := (Entails.of_eq (show (lead L (oPts d (m (oLoc d))) : sProp 𝕄) = (oV).view.loc (thr d L) ↦{fullShare} m (oLoc d) from if_pos hz)) $$ Ho
    ihave Hall1 := (Entails.of_eq (show (lead L (shAll d (cV L) (sums m d)) : sProp 𝕄) = (shB).view.loc (thr d L) ↦{fullShare} sums m d from if_pos hz)) $$ Hall
    rw [k0_part2_eq_skeleton]
    rw [dif_pos h1]
    unfold k0_part2_skel
    sl_exec
    have e4 : View.write (Elt F) gB.view f4 (tile_body.sl.dma0_2 m d) Finset.univ = sums m d := by
      rw [View.write_whole_univ]; rfl
    rw [e4]
    rw [Prog.bind_assoc]
    sl_for (fun n (a : FVec F S16 .f32) => iprop(⌜a = tots (sums m d) n⌝ ∗ ((gB).view.loc (thr d L) ↦{fullShare} sums m d))) $$ [H4']
    case region =>
      intro k a
      iintro ⟨%ha, H4⟩
      sl_exec
      sl_step
      isplitr
      · ipureintro; rw [tots_succ, ← ha]; rfl
      iexact H4
    · isplitr; · ipureintro; rfl
      iexact H4'
    iintro %tot ⟨%htot, H4'⟩
    sl_exec
    have eO : View.write (Elt F) (oV).view (m (oLoc d)) (tile_body.sl.dma2_1 d L f5 tot) Finset.univ = outv m d := by
      rw [View.write_whole_univ]; subst htot; exact View.read_writes_full _ _ _ _ _
    sl_step
    isplitl [Ht' Hr' Hp' Ho1 Hall1 Hbar]
    · isplitr [Hbar]; swap; · iexact Hbar
      isplitl [Ht']; · iexact Ht'
      isplitl [Hr']; · iexact Hr'
      isplitl [Hp']; · iexact Hp'
      isplitl [Ho1]
      · iapply (Entails.of_eq ((congrArg (fun f => ((oV).view.loc (thr d L) ↦{fullShare} f : sProp 𝕄)) eO).trans
          (show ((oV).view.loc (thr d L) ↦{fullShare} outv m d : sProp 𝕄) = lead L (oPts d (outv m d)) from (if_pos hz).symm))); iexact Ho1
      · iapply (Entails.of_eq (show ((shB).view.loc (thr d L) ↦{fullShare} sums m d : sProp 𝕄) = lead L (shAll d (cV L) (sums m d)) from (if_pos hz).symm)); iexact Hall1
    isplitl [H0' H1' H2' H3' H4' H5' Hbufs]
    · isplitl [H0']; · iexists _; iexact H0'
      isplitl [H1']; · iexists _; iexact H1'
      isplitl [H2']; · iexists _; iexact H2'
      isplitl [H3']; · iexists _; iexact H3'
      isplitl [H4']; · iexists _; iexact H4'
      isplitl [H5']; · iexists _; iexact H5'
      iexact Hbufs
    isplitl [S7 S8 S9 S0 S1 S2 Hsems]
    · isplitl [S7]; · iexact S7
      isplitl [S8]; · iexact S8
      isplitl [S9]; · iexact S9
      isplitl [S0]; · iexact S0
      isplitl [S1]; · iexact S1
      isplitl [S2]; · iexact S2
      iexact Hsems
    iexists _; isplitr
    swap; · iexact HO
    ipureintro; intro p hp
    rcases Finset.mem_insert.mp hp with hp | hp; · exact .inr (.inl (hp ▸ rfl))
    rcases Finset.mem_insert.mp hp with hp | hp; · exact .inr (.inl (hp ▸ rfl))
    rcases Finset.mem_insert.mp hp with hp | hp; · exact .inr (.inr (hp ▸ rfl))
    rcases Finset.mem_insert.mp hp with hp | hp; · exact .inr (.inl (hp ▸ rfl))
    rcases Finset.mem_insert.mp hp with hp | hp; · exact .inr (.inl (hp ▸ rfl))
    rcases Finset.mem_insert.mp hp with hp | hp; · exact .inr (.inl (hp ▸ rfl))
    rcases Finset.mem_insert.mp hp with hp | hp; · exact .inr (.inl (hp ▸ rfl))
    exact .inl hp
  · have hz : ¬ (L 1).val = 0 := fun h => h1 ((cond1_iff L).mpr h)
    rw [dif_neg h1]
    sl_exec
    sl_step
    isplitl [Ht' Hr' Hp' Ho Hall Hbar]
    · isplitr [Hbar]; swap; · iexact Hbar
      isplitl [Ht']; · iexact Ht'
      isplitl [Hr']; · iexact Hr'
      isplitl [Hp']; · iexact Hp'
      isplitl [Ho]
      · iapply (Entails.of_eq (show (lead L (oPts d (m (oLoc d))) : sProp 𝕄) = lead L (oPts d (outv m d)) from (if_neg hz).trans (if_neg hz).symm)); iexact Ho
      iexact Hall
    isplitl [H0' H1' H2' H3' H4' H5' Hbufs]
    · isplitl [H0']; · iexists _; iexact H0'
      isplitl [H1']; · iexists _; iexact H1'
      isplitl [H2']; · iexists _; iexact H2'
      isplitl [H3']; · iexists _; iexact H3'
      isplitl [H4']; · iexists _; iexact H4'
      isplitl [H5']; · iexists _; iexact H5'
      iexact Hbufs
    isplitl [S7 S8 S9 S0 S1 S2 Hsems]
    · isplitl [S7]; · iexact S7
      isplitl [S8]; · iexact S8
      isplitl [S9]; · iexact S9
      isplitl [S0]; · iexact S0
      isplitl [S1]; · iexact S1
      isplitl [S2]; · iexact S2
      iexact Hsems
    iexists _; isplitr
    swap; · iexact HO
    ipureintro; intro p hp
    rcases Finset.mem_insert.mp hp with hp | hp; · exact .inr (.inr (hp ▸ rfl))
    rcases Finset.mem_insert.mp hp with hp | hp; · exact .inr (.inl (hp ▸ rfl))
    rcases Finset.mem_insert.mp hp with hp | hp; · exact .inr (.inl (hp ▸ rfl))
    rcases Finset.mem_insert.mp hp with hp | hp; · exact .inr (.inl (hp ▸ rfl))
    rcases Finset.mem_insert.mp hp with hp | hp; · exact .inr (.inl (hp ▸ rfl))
    exact .inl hp
-- ==== Proof.Split.lean ====
/-
  One task of the call as the launch runs it; and how the call's buffers split among the sixteen tasks and come back.
-/
module

public import proofs.«01_k».proof.Proof.Body

@[expose] public section

noncomputable section

namespace Cert.Proof.K

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) [FloatOps F]

/-! ## A task -/

theorem defs₀_task (c : Fin τ.nSC) (s : Fin τ.nSub) :
    defs₀ (F := F) (.scVector c s) 0 ()
      = SparseCore.onTile hcore0 hsub0 (fun c s => cc0__sc_body (coordsV c s)
          pV (Memref.isWhole_whole _) tV (Memref.isWhole_whole _) rV (Memref.isWhole_whole _) oV (Memref.isWhole_whole _)
          tB (Memref.isWhole_whole _) rB (Memref.isWhole_whole _) wB (Memref.isWhole_whole _) sB (Memref.isWhole_whole _)
          gB (Memref.isWhole_whole _) oB (Memref.isWhole_whole _) shB (Memref.isWhole_whole _)
          cc0_scratch7 cc0_scratch8 cc0_scratch9 cc0_scoped0 cc0_scoped1 cc0_scoped2) ⟨⟩ c s := rfl

theorem ox_V (d : Dev nD) (c : Fin τ.nSC) (i : Fin τ.nSub) : (P m).ox 0 (V d c i) = if c.val < 1 then oxV d c else 0 := rfl
theorem x_V (d : Dev nD) (c : Fin τ.nSC) (i : Fin τ.nSub) : (P m).x 0 (V d c i) = if c.val < 1 then bkit m d c i else iprop(emp) := rfl

set_option maxRecDepth 16384 in
/-- Every task of the call, from what it is handed, brings back what it owes. -/
theorem tileObl (hpre : PreOK m) : (K (F := F)).TileObl (D (F := F)) 𝒱 (P m) v₀ 0 := by
  intro d c i O W hO hOlev _
  obtain rfl : c = 0 := Subsingleton.elim (α := Fin 1) _ _
  have hc : ((K (F := F)).core 0 0).val < 1 := Nat.one_pos
  have hci : ((K (F := F)).core 0 0).val < grid0.bound 0 ∧ ((K (F := F)).sub 0 i).val < grid0.bound 1 := ⟨Nat.one_pos, i.isLt⟩
  rw [ox_V, x_V, if_pos hc, if_pos hc]
  change _ ⊢ wp _ _ _ (Pipeline.liftProg (defs₀ (F := F) (.scVector ((K (F := F)).core 0 0) ((K (F := F)).sub 0 i)) 0 ())) _
  refine BI.Entails.trans ?_ (Pipeline.wp_liftProg (D (F := F)) (Pipeline.defs_kernel pcfgs defs₀) 𝒱₀ _ Set.univ none _ _)
  rw [defs₀_task]; simp only [SparseCore.onTile, hci, and_self, ↓reduceDIte]
  exact tile_body m d (crd (Fin.cast nSub_zero i)) hpre facts O W hO hOlev

/-! ## The blocks of the targets and rewards -/

abbrev blkSet (i : Fin 16) : Finset S1024.Idx := (tK (crd i)).view.set

omit [FloatOps F] in
theorem mem_blk (i : Fin 16) (x : S1024.Idx) : x ∈ blkSet i ↔ (x 0).val / 64 = i.val := by
  rw [show blkSet i = (blkR (crd i)).set from (View.set_slice _ _).trans Finset.map_refl, Rect.mem_set_unit]
  have h : k0_off1 (crd i) 0 = 64 * i.val := by rw [k0_off1_eq]; rfl
  have h2 : S64.size 0 = 64 := rfl
  constructor
  · intro hx
    have := hx 0
    rw [h] at this
    omega
  · intro hx a
    match a with
    | 0 => rw [h]; omega

omit [FloatOps F] in
theorem blk_disjoint : ∀ i ∈ (Finset.univ : Finset (Fin 16)), ∀ j ∈ (Finset.univ : Finset (Fin 16)), i ≠ j → Disjoint (blkSet i) (blkSet j) :=
  fun i _ j _ h => Finset.disjoint_left.mpr fun x hi hj => h (Fin.ext (((mem_blk i x).mp hi).symm.trans ((mem_blk j x).mp hj)))
omit [FloatOps F] in
theorem blk_cover : (Finset.univ : Finset (Fin 16)).biUnion blkSet = Finset.univ :=
  Finset.eq_univ_iff_forall.mpr fun x => Finset.mem_biUnion.mpr
    ⟨⟨(x 0).val / 64, Nat.div_lt_of_lt_mul (x 0).isLt⟩, Finset.mem_univ _, (mem_blk _ x).mpr rfl⟩

omit [FloatOps F] in
/-- The targets, and the rewards, are the tasks' blocks of them. -/
theorem tPts_blks (d : Dev nD) : (tPts m d : sProp 𝕄) = bigSep Finset.univ fun i : Fin 16 => tBlk m d (crd i) :=
  (congrArg (fun S : Finset S1024.Idx => (tLoc d ↦[S]{fullShare} m (tLoc d) : sProp 𝕄)) blk_cover.symm).trans
    (pointsTo_biUnion Finset.univ (ℓ := tLoc d) blkSet blk_disjoint)
omit [FloatOps F] in
theorem rPts_blks (d : Dev nD) : (rPts m d : sProp 𝕄) = bigSep Finset.univ fun i : Fin 16 => rBlk m d (crd i) :=
  (congrArg (fun S : Finset S1024.Idx => (rLoc d ↦[S]{fullShare} m (rLoc d) : sProp 𝕄)) blk_cover.symm).trans
    (pointsTo_biUnion Finset.univ (ℓ := rLoc d) blkSet blk_disjoint)
omit [FloatOps F] in
/-- The table, which every task reads, is sixteen shares of it. -/
theorem pPts_toks (d : Dev nD) : (pPts m d : sProp 𝕄) = bigSep Finset.univ fun i : Fin 16 => pTok m d (crd i) :=
  ShareLeaves.pointsTo_leaves Finset.univ _ 4 fullShare

omit [FloatOps F] in
theorem bigSep_sub (Φ : Fin 16 → sProp 𝕄) :
    (bigSep Finset.univ fun i : Fin ((K (F := F)).nSub 0) => Φ (Fin.cast nSub_zero i)) = bigSep Finset.univ Φ := rfl

omit [FloatOps F] in
/-- The sequencer's own buffers hold the shared scratch. -/
theorem ownBufs_sh (d : Dev nD) (c : Fin τ.nSC) :
    (ownBufs (S d c) : sProp 𝕄)
      = iprop((∃ f, shAll d c f) ∗ bigSep ((ownRefs (τ := τ) (.scScalar c)).erase (shRef c)) fun b => iprop(∃ f, ((d, b) : Loc nD τ sig) ↦{fullShare} f)) := by
  unfold SparseCore.Cfg.ownBufs
  exact SparseCore.bigSep_erase' ((mem_ownRefs (p := Proc.scScalar c) (b := shRef c)).mpr rfl)

/-- What the tasks take, together. -/
theorem go_all (d : Dev nD) (c : Fin τ.nSC) : (bigSep Finset.univ fun i : Fin 16 => tileGo m d c (crd i) : sProp 𝕄)
    = iprop(tPts m d ∗ rPts m d ∗ pPts m d ∗ oPts d (m (oLoc d)) ∗ bigSep Finset.univ fun i : Fin 16 => iprop(∃ f, shRow d c (crd i) f)) := by
  rw [bigSep_sep', bigSep_sep', bigSep_sep', bigSep_sep', ← tPts_blks, ← rPts_blks, ← pPts_toks, bigSep_lead]

/-- What they bring back, together. -/
theorem td_all (d : Dev nD) (c : Fin τ.nSC) : (bigSep Finset.univ fun i : Fin 16 => tileTd m d c (crd i) : sProp 𝕄)
    = iprop(tPts m d ∗ rPts m d ∗ pPts m d ∗ oPts d (outv m d) ∗ shAll d c (sums m d)) := by
  rw [bigSep_sep', bigSep_sep', bigSep_sep', bigSep_sep', ← tPts_blks, ← rPts_blks, ← pPts_toks, bigSep_lead, bigSep_lead]

theorem vecSplit : (K (F := F)).VecSplit (P m) 0 := by
  intro d c
  show iprop(iprop(tPts m d ∗ rPts m d ∗ pPts m d ∗ oPts d (m (oLoc d))) ∗ ownBufs (S d (coreOf c))) ⊢ |={Set.univ}=> iprop(
      (bigSep Finset.univ fun i : Fin ((K (F := F)).nSub 0) => tileGo m d (coreOf c) (crd (Fin.cast nSub_zero i)))
      ∗ ((bigSep Finset.univ fun i : Fin ((K (F := F)).nSub 0) =>
            iprop(tileTd m d (coreOf c) (crd (Fin.cast nSub_zero i)) ∗ semVal (bcell d (coreOf c) ((K (F := F)).sub 0 i)) 0))
          -∗ iprop(iprop((tPts m d ∗ rPts m d ∗ pPts m d ∗ oPts d (outv m d)) ∗ bars d c) ∗ ownBufs (S d (coreOf c)))))
  rw [bigSep_sep' _ (fun i : Fin ((K (F := F)).nSub 0) => tileTd m d (coreOf c) (crd (Fin.cast nSub_zero i))),
    bigSep_sub (F := F) (fun i => tileGo m d (coreOf c) (crd i)), bigSep_sub (F := F) (fun i => tileTd m d (coreOf c) (crd i)),
    go_all, td_all, ownBufs_sh]
  iintro ⟨⟨Ht, Hr, Hp, Ho⟩, ⟨%f, Hsh⟩, Hrest⟩; imodintro
  isplitl [Ht Hr Hp Ho Hsh]
  · isplitl [Ht]; · iexact Ht
    isplitl [Hr]; · iexact Hr
    isplitl [Hp]; · iexact Hp
    isplitl [Ho]; · iexact Ho
    iapply ((Entails.of_eq (shAll_rows d (coreOf c) f)).trans (SparseCore.ent (bigSep_mono (Φ := fun i : Fin 16 => shRow d (coreOf c) (crd i) f)
      (Ψ := fun i : Fin 16 => iprop(∃ f, shRow d (coreOf c) (crd i) f))
      fun i _ => BI.BIClass.exists_intro (Φ := fun f => shRow d (coreOf c) (crd i) f) f)))
    iexact Hsh
  iintro ⟨⟨Ht, Hr, Hp, Ho, Hsh⟩, Hbars⟩
  isplitl [Ht Hr Hp Ho Hbars]
  · isplitr [Hbars]; swap; · iexact Hbars
    isplitl [Ht]; · iexact Ht
    isplitl [Hr]; · iexact Hr
    isplitl [Hp]; · iexact Hp
    iexact Ho
  isplitl [Hsh]; · iexists _; iexact Hsh
  iexact Hrest

end Cert.Proof.K

end
-- ==== Proof.Run.lean ====
/-
  @main: the table transposed, the call, the result's first lane cut out. The program's run.
-/
module

public import proofs.«01_k».proof.Proof.Launch
public import proofs.«01_k».proof.Proof.Split

@[expose] public section

noncomputable section

namespace Cert.Proof.K

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg) [FloatOps F]

/-! ## @main's arrays -/

abbrev aR : DevRef τ sig := Proc.devRef .tc (main_arg0 : Ref sig .tc)
abbrev tR : DevRef τ sig := Proc.devRef .tc (main_arg1 : Ref sig .tc)
abbrev rR : DevRef τ sig := Proc.devRef .tc (main_arg2 : Ref sig .tc)
abbrev pR : DevRef τ sig := Proc.devRef .tc (main_v0 : Ref sig .tc)
abbrev oR : DevRef τ sig := Proc.devRef .tc (main_v1 : Ref sig .tc)
abbrev sR : DevRef τ sig := Proc.devRef .tc (main_v2 : Ref sig .tc)
abbrev yR : DevRef τ sig := Proc.devRef .tc (main_v3 : Ref sig .tc)
/-- All of them. -/
abbrev arrs : Finset (DevRef τ sig) := {aR, tR, rR, pR, oR, sR, yR}

/-- The three operations outside the call. -/
abbrev opT : HloOp τ sig (Elt F) :=
  StableHlo.unary main_arg0 main_v0 ((transpose S100000x1024 [1, 0] · transposes_S1024x100000_S100000x1024_1_0) : (⟨S1024x100000, .f32⟩ : BufTy).Contents (Elt F) → (⟨S100000x1024, .f32⟩ : BufTy).Contents (Elt F))
abbrev opS : HloOp τ sig (Elt F) :=
  StableHlo.unary main_v1 main_v2 ((extractStridedSlice S1 ![0] · slices_S16_S1_0) : (⟨S16, .f32⟩ : BufTy).Contents (Elt F) → (⟨S1, .f32⟩ : BufTy).Contents (Elt F))
abbrev opR : HloOp τ sig (Elt F) := StableHlo.reshape main_v2 main_v3 (rfl : (.f32 : EltTy) = .f32) shapeCasts_S1_S_

omit [FloatOps F] in
theorem held_arrs (d : Dev nD) (W : Valuation τ sig (Elt F)) :
    (held (T d) arrs W : sProp 𝕄) = iprop((aLoc d ↦{fullShare} W aR) ∗ (tLoc d ↦{fullShare} W tR) ∗ (rLoc d ↦{fullShare} W rR)
      ∗ (pLoc d ↦{fullShare} W pR) ∗ (oLoc d ↦{fullShare} W oR) ∗ (sLoc d ↦{fullShare} W sR) ∗ yLoc d ↦{fullShare} W yR) := by
  unfold held arrs
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- What the arrays hold at the launch; after the transpose; after the call; after the slice; at the end. -/
def W₀ (d : Dev nD) : Valuation τ sig (Elt F) := fun b => m (d, b)
def W₁ (d : Dev nD) : Valuation τ sig (Elt F) := (opT (F := F)).result (W₀ m d)
def W₂ (d : Dev nD) : Valuation τ sig (Elt F) := Function.update (W₁ m d) oR (outv m d)
def W₃ (d : Dev nD) : Valuation τ sig (Elt F) := (opS (F := F)).result (W₂ m d)
def W₄ (d : Dev nD) : Valuation τ sig (Elt F) := (opR (F := F)).result (W₃ m d)
/-- @main's result. -/
def yv (d : Dev nD) : Buf (Elt F) (yLoc d) := W₄ m d yR

set_option maxRecDepth 4000 in
omit [FloatOps F] in
theorem unscoped_arrs (d : Dev nD) : (unscopedBufs d (fun b => m ((SparseCore.T d).loc b)) : sProp 𝕄) = held (T d) arrs (W₀ m d) := by
  rw [held_arrs]
  unfold unscopedBufs
  rw [show (Finset.univ.filter fun b : Ref sig .tc => ¬ b.isScoped) = {main_arg0, main_arg1, main_arg2, main_v0, main_v1, main_v2, main_v3} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
  rfl

/-! ### The valuations, read -/

theorem W₁_of_ne (d : Dev nD) (b : Ref sig .tc) (h : b ≠ main_v0) : W₁ m d (Proc.devRef .tc b) = m ((SparseCore.T d).loc b) :=
  StableHlo.unary_result_ne _ _ _ _ _ _ h
theorem W₁_p (d : Dev nD) : W₁ m d pR = tbl m d := StableHlo.unary_result' _ _ _ _
theorem W₂_of_ne (d : Dev nD) (b : DevRef τ sig) (h : b ≠ oR) : W₂ m d b = W₁ m d b := Function.update_of_ne h _ _
theorem W₂_o (d : Dev nD) : W₂ m d oR = outv m d := Function.update_self _ _ _
theorem W₄_of_ne (d : Dev nD) (b : Ref sig .tc) (h2 : b ≠ main_v2) (h3 : b ≠ main_v3) : W₄ m d (Proc.devRef .tc b) = W₂ m d (Proc.devRef .tc b) :=
  (StableHlo.reshape_result_ne _ _ _ _ _ _ _ h3).trans (StableHlo.unary_result_ne _ _ _ _ _ _ h2)

theorem W₁_a (d : Dev nD) : W₁ m d aR = m (aLoc d) := W₁_of_ne m d main_arg0 (by decide)
theorem W₁_t (d : Dev nD) : W₁ m d tR = m (tLoc d) := W₁_of_ne m d main_arg1 (by decide)
theorem W₁_r (d : Dev nD) : W₁ m d rR = m (rLoc d) := W₁_of_ne m d main_arg2 (by decide)
theorem W₁_o (d : Dev nD) : W₁ m d oR = m (oLoc d) := W₁_of_ne m d main_v1 (by decide)

/-! ## The call's ends -/

theorem st0_eq (d : Dev nD) : (bigSep Finset.univ fun c : Fin ((K (F := F)).nCore 0) => (P m).st 0 d c) = iprop(tPts m d ∗ rPts m d ∗ pPts m d ∗ oPts d (m (oLoc d))) :=
  bigSep_univ_of_subsingleton (0 : Fin 1)
theorem dn0_eq (d : Dev nD) : (bigSep Finset.univ fun c : Fin ((K (F := F)).nCore 0) => (P m).dn 0 d c)
    = iprop((tPts m d ∗ rPts m d ∗ pPts m d ∗ oPts d (outv m d)) ∗ bars d 0) :=
  bigSep_univ_of_subsingleton (0 : Fin 1)

abbrev aPts (d : Dev nD) : sProp 𝕄 := aLoc d ↦{fullShare} m (aLoc d)
abbrev yPts (d : Dev nD) : sProp 𝕄 := yLoc d ↦{fullShare} yv m d
/-- What @main leaves: its arguments unchanged, its result, the barrier semaphores at zero. -/
abbrev FIN (d : Dev nD) : sProp 𝕄 := iprop(aPts m d ∗ tPts m d ∗ rPts m d ∗ yPts m d ∗ bars d 0)

omit [FloatOps F] in
theorem hT : (opT (F := F)).bufs ⊆ arrs := show ({aR, pR} : Finset (DevRef τ sig)) ⊆ arrs by decide
omit [FloatOps F] in
theorem hS : (opS (F := F)).bufs ⊆ arrs := show ({oR, sR} : Finset (DevRef τ sig)) ⊆ arrs by decide
omit [FloatOps F] in
theorem hR : (opR (F := F)).bufs ⊆ arrs := show ({sR, yR} : Finset (DevRef τ sig)) ⊆ arrs by decide

/-- What is left of the arrays at the end. -/
theorem held_end (d : Dev nD) : (held (T d) arrs (opR.result (W₃ m d)) : sProp 𝕄) ⊢ iprop(aPts m d ∗ tPts m d ∗ rPts m d ∗ yPts m d) := by
  change (held (T d) arrs (W₄ m d) : sProp 𝕄) ⊢ _
  rw [held_arrs, W₄_of_ne m d main_arg0 (by decide) (by decide), W₄_of_ne m d main_arg1 (by decide) (by decide), W₄_of_ne m d main_arg2 (by decide) (by decide),
    W₂_of_ne m d aR (by decide), W₂_of_ne m d tR (by decide), W₂_of_ne m d rR (by decide), W₁_a, W₁_t, W₁_r]
  iintro ⟨Ha, Ht, Hr, -, -, -, Hy⟩
  isplitl [Ha]; · iexact Ha
  isplitl [Ht]; · iexact Ht
  isplitl [Hr]; · iexact Hr
  iexact Hy

/-- @main on device `d`'s TensorCore. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_arrs]
  simp only [main, wp_bind, wp_pure]
  iintro ⟨#Hctx, Hst, ⟨Hb, Hheld, Hts, -⟩, -⟩
  -- the transpose
  iapply (wp_hlo_within 𝒱 (SparseCore.T d) none Set.univ (op := opT) (S := arrs) hT (V := W₀ m d)) $$ [Hb Hheld]
  · isplitl [Hb]; · iexact Hb
    iexact Hheld
  iintro ⟨Hb, Hheld⟩
  ihave Hh := (Entails.of_eq (show (held (T d) arrs (opT.result (W₀ m d)) : sProp 𝕄) = _ from held_arrs d (W₁ m d))) $$ Hheld
  icases Hh with ⟨Ha, Ht, Hr, Hp, Ho, Hs, Hy⟩
  rw [wp_ret]; imodintro
  -- the call
  iapply ((K (F := F)).wp_run (D (F := F)) 𝒱 (EH := EH) (P := P m) κ d 0) $$ [Hst Ha Ht Hr Hp Ho Hs Hy Hb Hts]
  isplitr; · iexact Hctx
  isplitl [Hst]; · iexact Hst
  isplitl [Ht Hr Hp Ho]
  · rw [st0_eq, W₁_t, W₁_r, W₁_p, W₁_o]
    isplitl [Ht]; · iexact Ht
    isplitl [Hr]; · iexact Hr
    isplitl [Hp]; · iexact Hp
    iexact Ho
  iintro ⟨Hst, Hdn⟩
  ihave Hdn' := (Entails.of_eq (dn0_eq m d)) $$ Hdn
  icases Hdn' with ⟨⟨Ht, Hr, Hp, Ho⟩, Hbars⟩
  -- the first lane
  iapply (wp_hlo_within 𝒱 (SparseCore.T d) none Set.univ (op := opS) (S := arrs) hS (V := W₂ m d)) $$ [Hb Ha Ht Hr Hp Ho Hs Hy]
  · isplitl [Hb]; · iexact Hb
    rw [held_arrs, W₂_of_ne m d aR (by decide), W₂_of_ne m d tR (by decide), W₂_of_ne m d rR (by decide), W₂_of_ne m d pR (by decide),
      W₂_of_ne m d sR (by decide), W₂_of_ne m d yR (by decide), W₂_o, W₁_t, W₁_r, W₁_p]
    isplitl [Ha]; · iexact Ha
    isplitl [Ht]; · iexact Ht
    isplitl [Hr]; · iexact Hr
    isplitl [Hp]; · iexact Hp
    isplitl [Ho]; · iexact Ho
    isplitl [Hs]; · iexact Hs
    iexact Hy
  iintro ⟨Hb, Hheld⟩
  rw [wp_ret]; imodintro
  iapply (wp_hlo_within 𝒱 (SparseCore.T d) none Set.univ (op := opR) (S := arrs) hR (V := W₃ m d)) $$ [Hb Hheld]
  · isplitl [Hb]; · iexact Hb
    iapply (Entails.of_eq (show (held (T d) arrs (opS.result (W₂ m d)) : sProp 𝕄) = held (T d) arrs (W₃ m d) from rfl)) $$ Hheld
  iintro ⟨Hb, Hheld⟩
  ihave Hh := (held_end m d) $$ Hheld
  icases Hh with ⟨Ha, Ht, Hr, Hy⟩
  rw [wp_ret]; imodintro; imodintro
  isplitl [Hst]; · iexact Hst
  isplitr [Hb Hts]
  · isplitl [Ha]; · iexact Ha
    isplitl [Ht]; · iexact Ht
    isplitl [Hr]; · iexact Hr
    isplitl [Hy]; · iexact Hy
    iexact Hbars
  isplitl [Hb] <;> iassumption

/-! ## The final state, and the run -/

omit [FloatOps F] in
/-- A buffer held whole is what the memory holds. -/
theorem read_whole (ℓ : Loc nD τ sig) (f : Buf (Elt F) ℓ) (s' : Phys nD τ sig (Elt F)) :
    iprop((ℓ ↦{fullShare} f) ∗ SI s') ⊢ (⌜s'.mem.mem ℓ = f⌝ : sProp 𝕄) := by
  iintro ⟨Hx, HSI⟩
  ihave H := (SI_pointsTo_agree (st := s') (ℓ := ℓ) (I := Finset.univ) (q := fullShare) (f := f)) $$ [HSI Hx]
  · isplitl [HSI] <;> iassumption
  icases H with %hx
  ipureintro; exact funext fun i => hx i (Finset.mem_univ i)

def fq (d : Dev nD) (s' : Phys nD τ sig (Elt F)) : Prop :=
  s'.mem.mem (aLoc d) = m (aLoc d) ∧ s'.mem.mem (tLoc d) = m (tLoc d) ∧ s'.mem.mem (rLoc d) = m (rLoc d) ∧ s'.mem.mem (yLoc d) = yv m d
    ∧ ∀ i : Fin ((K (F := F)).nSub 0), s'.mem.sem (bcell d (coreOf (F := F) 0) ((K (F := F)).sub 0 i)) = 0

theorem hfin (d : Dev nD) (s' : Phys nD τ sig (Elt F)) : iprop(FIN m d ∗ SI s') ⊢ (⌜fq m d s'⌝ : sProp 𝕄) := by
  intro x hx
  refine ⟨(((sep_mono_left sep_elim_left).trans (read_whole _ _ s')) x hx), ?_, ?_, ?_, fun i => ?_⟩
  · exact ((sep_mono_left (sep_elim_right.trans sep_elim_left)).trans (read_whole _ _ s')) x hx
  · exact ((sep_mono_left (sep_elim_right.trans (sep_elim_right.trans sep_elim_left))).trans (read_whole _ _ s')) x hx
  · exact ((sep_mono_left (sep_elim_right.trans (sep_elim_right.trans (sep_elim_right.trans sep_elim_left)))).trans (read_whole _ _ s')) x hx
  · exact ((sep_mono_left (sep_elim_right.trans (sep_elim_right.trans (sep_elim_right.trans (sep_elim_right.trans
      (SparseCore.ent (bigSep_elim (Finset.mem_univ i)))))))).trans (SparseCore.Cfg.semVal_zero_read _ s')) x hx

/-- The barrier semaphores end at zero. -/
theorem hA (s' : Phys nD τ sig (Elt F)) (h : ∀ d, fq m d s') (g : GSem nD τ sig) (hg : g ∈ bCells) : s'.mem.sem g = 0 := by
  obtain ⟨⟨d, i⟩, -, rfl⟩ := Finset.mem_image.mp hg
  exact (h d).2.2.2.2 ⟨i.val, i.isLt⟩

/-- The run's end: the arguments unchanged, the result `yv`, every semaphore at zero. -/
def QC : PUnit × MemSt nD τ sig (Elt F) → Prop := fun r =>
  (∀ c : Dev nD, r.2.mem (aLoc c) = m (aLoc c) ∧ r.2.mem (tLoc c) = m (tLoc c) ∧ r.2.mem (rLoc c) = m (rLoc c) ∧ r.2.mem (yLoc c) = yv m c)
    ∧ r.2.sem = fun _ => 0

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (hA := hA m) facts v₀
    (fun q hq => match q with | 0 => nomatch hq)
    (fun q _ => match q with | 0 => tileObl m hpre)
    (fun q _ => match q with | 0 => vecSplit m)
    m ρ main (fun _ => iprop(emp)) (FIN m) (u₀ (F := F)) (hu₀ m) (hmain m ρ) (fq m) (hfin m) (QC m)
    (fun _ h hz => ⟨fun c => ⟨(h c).1, (h c).2.1, (h c).2.2.1, (h c).2.2.2.1⟩, hz⟩)

end Cert.Proof.K

end
-- ==== Proof.Frames.lean ====
/-
  The precondition read, and the frames of the three programs.
-/
module

public import proofs.«01_k».proof.Defs
public import proofs.«01_k».proof.Proof.Gen.Kernel
public import proofs.«01_k».proof.Proof.Gen.Pre_pre
public import proofs.«01_k».proof.Proof.Gen.ReferenceIdeal.Run
public import proofs.«01_k».proof.Proof.Run
public import Idealize.ShloMosaic.Lib.ReduceAll
public import Idealize.ShloMosaic.Lib.WordCmp
public import Idealize.ShloMosaic.Lib.Quiescent

@[expose] public section

noncomputable section

namespace Cert.Proof.K

open Cert.KernelIdeal Cert.KernelIdeal.Gen
open Idealize.ShloMosaic Idealize.ShloMosaic.WordCmp Idealize.SL.Sem

/-- If the precondition's function is all ones at a list of classes, every class names a column of the table. -/
theorem class_lt {F : FTy → Type} [FloatOps F] (a : FVec F S1024x100000 .f32) (t : IVec S1024 32) (r : FVec F S1024 .f32)
    (h : Cert.Pre_pre.fn (F := F) a t r = fun _ => 1#1) (x : S1024.Idx) : (t x).toNat < 100000 := by
  have e := congrFun h (fun k => k.elim0)
  dsimp only [Cert.Pre_pre.fn] at e
  have k := Host.reduce_andi_all _ _ _ _ _ e x
  simp only [andi, cmpi, broadcastInDim, constantI] at k
  rw [show (100000#32 : BitVec 32) = BitVec.ofNat 32 100000 from rfl, andi_sge_zero_slt_ofNat (by norm_num), ofBool_decide_eq_one_iff] at k
  exact k

theorem ok_ideal (m : (ℓ : Loc nD τ sig) → Buf (Elt Ideal) ℓ) (h : Cert.Pre_KernelIdeal m) : PreOK m := fun d => class_lt _ _ _ (h d)
theorem ok_bits (m : (ℓ : Loc nD τ sig) → Buf (Elt Bits) ℓ) (h : Cert.Pre_Kernel m) : PreOK m := fun d => class_lt _ _ _ (h d)

/-- The idealized kernel's frame: its run, the result dropped. -/
theorem frame_ideal : Cert.quiescent_KernelIdeal := fun m ρ h =>
  (θ_run Cert.KernelIdeal.defs _ _).mono (fun _ q => ⟨fun c => ⟨(q.1 c).1, (q.1 c).2.1, (q.1 c).2.2.1⟩, q.2⟩) (run_main (F := Ideal) m ρ (ok_ideal m h))

/-- The kernel's frame: the same text, read over words. -/
theorem frame_kernel : Cert.quiescent_Kernel := fun m ρ h =>
  (θ_run Cert.KernelIdeal.defs _ _).mono (fun _ q => ⟨fun c => ⟨(q.1 c).1, (q.1 c).2.1, (q.1 c).2.2.1⟩, q.2⟩) (run_main (F := Bits) m ρ (ok_bits m h))

/-- The reference's frame: host operations alone, and no semaphore. -/
theorem frame_reference : Cert.quiescent_ReferenceIdeal := fun m ρ _ =>
  (θ_run Cert.ReferenceIdeal.defs _ _).mono (fun r q => ⟨fun c => (q c).2, sem_eq_zero_of_no_sems rfl r.2⟩) (Cert.ReferenceIdeal.Value.run (F := Ideal) m ρ)

/-- The same under the precondition of the kernel. -/
theorem frame_reference_pre : Cert.quiescent_ReferenceIdeal_pre_pre := fun m ρ _ =>
  (θ_run Cert.ReferenceIdeal.defs _ _).mono (fun r q => ⟨fun c => (q c).2, sem_eq_zero_of_no_sems rfl r.2⟩) (Cert.ReferenceIdeal.Value.run (F := Ideal) m ρ)

end Cert.Proof.K

end
-- ==== Proof.Value.lean ====
/-
  What the kernel's result is over the extended reals: minus the sum of all the samples' contributions. Then the
  algebraic claim: kernel and reference end with the same result.
-/
module

public import proofs.«01_k».proof.Proof.Sums
public import proofs.«01_k».proof.Proof.Ref
public import proofs.«01_k».proof.Proof.Frames

@[expose] public section

noncomputable section

namespace Cert.Proof.K

open Cert.KernelIdeal Cert.KernelIdeal.Gen
open Idealize.ShloMosaic Idealize.SL.Sem

variable (m : (ℓ : Loc nD τ sig) → Buf (Elt Ideal) ℓ) (d : Dev nD)

/-- Sample `n`'s contribution, read from the launch memory; zero past the last sample. -/
def contrib (n : ℕ) : EReal :=
  if h : n < 1024 then Ref.term (m (aLoc d) : FVec Ideal S1024x100000 .f32) (m (tLoc d) : IVec S1024 32) (m (rLoc d) : FVec Ideal S1024 .f32) ⟨n, h⟩ else 0

/-- Task `i`'s sample `n` is sample `64 i + n` of the problem. -/
theorem tgt_apply (L : grid0.Coords) (n : Fin 64) (h : 64 * (L 1).val + n.val < 1024) :
    tgt m d L (ix1 n) = (m (tLoc d) : IVec S1024 32) (ix1 (⟨64 * (L 1).val + n.val, h⟩ : Fin 1024)) := by
  refine congrArg (m (tLoc d) : IVec S1024 32) (funext fun a => Fin.ext ?_)
  refine (ValueKit.rect_emb_unit_val _ _ _ _ _).trans ?_
  match a with
  | ⟨0, _⟩ => exact congrArg (· + n.val) (congrFun (k0_off1_eq L) 0)

theorem rwd_apply (L : grid0.Coords) (n : Fin 64) (h : 64 * (L 1).val + n.val < 1024) :
    rwd m d L (ix1 n) = (m (rLoc d) : FVec Ideal S1024 .f32) (ix1 (⟨64 * (L 1).val + n.val, h⟩ : Fin 1024)) := by
  refine congrArg (m (rLoc d) : FVec Ideal S1024 .f32) (funext fun a => Fin.ext ?_)
  refine (ValueKit.rect_emb_unit_val _ _ _ _ _).trans ?_
  match a with
  | ⟨0, _⟩ => exact congrArg (· + n.val) (congrFun (k0_off1_eq L) 0)

/-- The row of the transposed table gathered for a task's sample `n` is the sample's class. -/
theorem tgtRow_val (L : grid0.Coords) (n : Fin 64) (h : 64 * (L 1).val + n.val < 1024) :
    (tgtRow m d L n).val = ((m (tLoc d) : IVec S1024 32) (ix1 (⟨64 * (L 1).val + n.val, h⟩ : Fin 1024))).toNat % 100000 := by
  have e : S64.rowMajor.symm (Fin.cast (by decide : (64 : ℕ) = S64.numel) n) = (ix1 n : S64.Idx) := by
    rw [Equiv.symm_apply_eq]
    exact Fin.ext (Shape.rowMajor_val_one (d := ![64]) (ix1 n)).symm
  unfold tgtRow
  rw [← tgt_apply m d L n h, ← e]

/-- The gathered window at a sample's own row and column is the table at the sample and its class. -/
theorem win_apply (L : grid0.Coords) (n : Fin 64) (h : 64 * (L 1).val + n.val < 1024) (hc : 64 * ((L 1).val % 2) + n.val < 128) :
    win m d L (ix2 n (⟨64 * ((L 1).val % 2) + n.val, hc⟩ : Fin 128))
      = (m (aLoc d) : FVec Ideal S1024x100000 .f32) (ix2 (⟨64 * (L 1).val + n.val, h⟩ : Fin 1024) (tgtRow m d L n)) := by
  unfold win SparseCore.gatherPayload tbl
  refine transpose_apply _ _ _ _ _ fun b => ?_
  match b with
  | ⟨0, _⟩ =>
    refine Eq.trans ?_ (ValueKit.rect_emb_unit_val _ _ _ _ _).symm
    refine Eq.trans ?_ (congrArg (· + _) (congrFun (off2_eq L) 0)).symm
    refine Eq.trans ?_ (Nat.zero_add _).symm
    exact (congrArg Fin.val (Shape.Gathers.idx_axis gathers_S100000x128_S64x128 (tgtRow m d L)
      (ix2 n (⟨64 * ((L 1).val % 2) + n.val, hc⟩ : Fin 128)))).symm
  | ⟨1, _⟩ =>
    refine Eq.trans ?_ (ValueKit.rect_emb_unit_val _ _ _ _ _).symm
    refine Eq.trans ?_ (congrArg (· + _) (congrFun (off2_eq L) 1)).symm
    refine Eq.trans ?_ (congrArg (128 * ((L 1).val / 2) + ·) (Shape.Gathers.idx_of_ne gathers_S100000x128_S64x128 (tgtRow m d L) _ 1 (by decide))).symm
    show 64 * (L 1).val + n.val = 128 * ((L 1).val / 2) + (64 * ((L 1).val % 2) + n.val)
    omega

/-- A task's sample `n` contributes sample `64 i + n`'s contribution. -/
theorem smp_eq (i : Fin 16) (n : Fin 64) : smp (crd i) (rwd m d (crd i)) (win m d (crd i)) n.val = contrib m d (64 * i.val + n.val) := by
  have hi := i.isLt
  have hn := n.isLt
  have h : 64 * i.val + n.val < 1024 := by omega
  unfold smp contrib
  rw [dif_pos hn, dif_pos h]
  refine congrArg₂ (· * ·) ?_ (rwd_apply m d (crd i) n h)
  refine (win_apply m d (crd i) n h (by omega)).trans ?_
  exact congrArg (fun k => (m (aLoc d) : FVec Ideal S1024x100000 .f32) (ix2 (⟨64 * i.val + n.val, h⟩ : Fin 1024) k)) (Fin.ext (tgtRow_val m d (crd i) n h))

/-- A task's sixteen partial sums add up to the contributions of its samples. -/
theorem sum_part (i : Fin 16) : (∑ l : Fin 16, part m d (crd i) (ix1 l)) = ∑ n : Fin 64, contrib m d (64 * i.val + n.val) := by
  rw [← Finset.sum_congr rfl fun n _ => smp_eq m d i n, ← sum_gains]
  exact Finset.sum_congr rfl fun l _ => pay5_apply _ _ _ l

/-- The shared scratch at lane `l` of row `i`. -/
theorem sums_apply (i l : Fin 16) (h : 16 * i.val + l.val < 256) : sums m d (ix1 (⟨16 * i.val + l.val, h⟩ : Fin 256)) = part m d (crd i) (ix1 l) := by
  have hl := l.isLt
  unfold sums
  have e0 : (⟨(16 * i.val + l.val) / 16, by omega⟩ : Fin 16) = i := Fin.ext (by show (16 * i.val + l.val) / 16 = i.val; omega)
  have e1 : lane (⟨(16 * i.val + l.val) % 16, by omega⟩ : Fin 16) = ix1 l := funext fun a => Fin.ext (by
    match a with
    | ⟨0, _⟩ => show (16 * i.val + l.val) % 16 = l.val; omega)
  exact congrArg₂ (fun j y => part m d (crd j) y) e0 e1

/-- The call writes, in every lane, minus the sum of all samples' contributions. -/
theorem outv_eq (x : S16.Idx) : outv m d x = -∑ n : Fin 1024, contrib m d n.val := by
  unfold outv k0_pay6
  rw [shapeCast_self, pay13_apply]
  refine congrArg _ ?_
  rw [← sum_blocks 16 64 (contrib m d), ← Finset.sum_congr rfl fun i _ => sum_part m d i, Finset.sum_comm]
  refine Finset.sum_congr rfl fun l _ => ?_
  refine (tots_apply (sums m d) 16 le_rfl l).trans ?_
  exact Finset.sum_congr rfl fun i _ => sums_apply m d i l _

/-- The result read back as a scalar. -/
theorem yv_eq : (yv m d : S_.Idx → EReal) = fun _ => -∑ n : Fin 1024, contrib m d n.val := by
  have e1 : W₃ m d sR = extractStridedSlice S1 ![0] (outv m d) slices_S16_S1_0 :=
    (StableHlo.unary_result' _ _ _ _).trans (congrArg (fun v => extractStridedSlice S1 ![0] v slices_S16_S1_0) (W₂_o m d))
  have e2 : yv m d = (shapeCast S_ (W₃ m d sR : S1.Idx → EReal) shapeCasts_S1_S_ : S_.Idx → EReal) := by
    unfold yv W₄
    exact StableHlo.reshape_result' _ _ _ _ _
  rw [e2, e1]
  funext j
  unfold shapeCast extractStridedSlice
  exact outv_eq m d _

/-- The kernel and the reference, from memories that agree on the arguments, end with the same result over the extended reals. -/
theorem algebraic : Cert.algebraic_KernelIdeal_ReferenceIdeal := by
  intro m ρ m' ρ' hpre hagree
  have hok := ok_ideal m hpre
  refine ⟨fun c => yv m c, (θ_run Cert.KernelIdeal.defs _ _).mono (fun r q c => ⟨(q.1 c).2.2.2, (q.1 c).1, (q.1 c).2.1, (q.1 c).2.2.1⟩) (run_main (F := Ideal) m ρ hok), ?_⟩
  refine (θ_run Cert.ReferenceIdeal.defs _ _).mono (fun r q c => ⟨(q c).1.trans ?_, (q c).2⟩) (Cert.ReferenceIdeal.Value.run (F := Ideal) m' ρ')
  obtain ⟨ha, ht, hr⟩ := hagree c
  rw [ha, ht, hr]
  refine (Ref.value (m (aLoc c) : FVec Ideal S1024x100000 .f32) (m (tLoc c) : IVec S1024 32) (m (rLoc c) : FVec Ideal S1024 .f32) (hok c)).trans ?_
  refine Eq.trans ?_ (yv_eq m c).symm
  funext j
  refine congrArg (- ·) (Finset.sum_congr rfl fun n _ => ?_)
  unfold contrib
  rw [dif_pos n.isLt]

end Cert.Proof.K

end
-- ==== Proof.lean ====
/-
  The certificate of a SparseCore kernel that gathers, for each of 1024 samples, one element of a table of 1024 x 100000
  probabilities, weighs it with the sample's reward, and returns minus the sum. It proves that the kernel, over words and
  over the extended reals, and the reference run without fault, keep their arguments and leave every semaphore at zero,
  and that kernel and reference compute the same number over the extended reals.

  Proof/Setup.lean states the values and what the handshakes carry; Tile.lean and Body.lean prove one task; Launch.lean and
  Split.lean the launch; Run.lean the whole program's run; Frames.lean the frames; Sums.lean and Value.lean what the run's
  result is; Ref.lean what the reference's is.
-/
module

public import proofs.«01_k».proof.Proof.Value

@[expose] public section

noncomputable section

namespace Cert.Proof

/-- Every claim of the certificate. -/
theorem claim : Cert.Claim :=
  ⟨Cert.Kernel.Gen.facts, Cert.KernelIdeal.Gen.facts, Cert.ReferenceIdeal.Gen.facts, Cert.Pre_pre.Gen.facts,
    K.frame_kernel, K.frame_ideal, K.frame_reference, K.frame_reference_pre, trivial, K.algebraic⟩

end Cert.Proof

end
